-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S256x4096 : Shape := ⟨2, ![256, 4096]⟩
abbrev S256x14336 : Shape := ⟨2, ![256, 14336]⟩
abbrev S14336x4096 : Shape := ⟨2, ![14336, 4096]⟩
abbrev S112x32 : Shape := ⟨2, ![112, 32]⟩
abbrev S8x16x4096 : Shape := ⟨3, ![8, 16, 4096]⟩
abbrev S8x14336x16 : Shape := ⟨3, ![8, 14336, 16]⟩
abbrev S256x2 : Shape := ⟨2, ![256, 2]⟩
abbrev S_ : Shape := ⟨0, ![]⟩

class Facts : Prop where
  bcast_S_S256x14336 : S_.BroadcastsInDim S256x14336 (![] : Fin 0 → Fin S256x14336.rank)
  reducesTo_S256x14336_S_d0_1 : S256x14336.ReducesTo [0, 1] S_
  h_S_ : 0 < S_.numel

variable [Facts]

def fn {F : FTy → Type} [FloatOps F] (main_arg0 : FVec F S256x4096 .bf16) (main_arg1 : FVec F S256x14336 .bf16) (main_arg2 : FVec F S14336x4096 .fp8e4m3) (main_arg3 : FVec F S112x32 .f32) (main_arg4 : FVec F S8x16x4096 .bf16) (main_arg5 : FVec F S8x14336x16 .bf16) (main_arg6 : IVec S256x2 32) (main_arg7 : FVec F S256x2 .f32) : IVec S_ 1 :=
  let main_v0 : FVec F S256x14336 .bf16 := Host.absf main_arg1
  let main_cst : FVec F S_ .bf16 := constant S_ .bf16 0x7F7F#16
  let main_v1 : FVec F S256x14336 .bf16 := broadcastInDim S256x14336 ![] bcast_S_S256x14336 main_cst
  let main_v2 : IVec S256x14336 1 := cmpf .ole main_v0 main_v1
  let main_c : IVec S_ 1 := constantI S_ 1 1#1
  let main_v3 : IVec S_ 1 := (fun x v => Host.reduce IntOp.andi x v reducesTo_S256x14336_S_d0_1 h_S_) main_v2 main_c
  main_v3
-- ==== Kernel.lean ====
abbrev S256x4096 : Shape := ⟨2, ![256, 4096]⟩
abbrev S256x14336 : Shape := ⟨2, ![256, 14336]⟩
abbrev S14336x4096 : Shape := ⟨2, ![14336, 4096]⟩
abbrev S112x32 : Shape := ⟨2, ![112, 32]⟩
abbrev S8x16x4096 : Shape := ⟨3, ![8, 16, 4096]⟩
abbrev S8x14336x16 : Shape := ⟨3, ![8, 14336, 16]⟩
abbrev S256x2 : Shape := ⟨2, ![256, 2]⟩
abbrev S32x112 : Shape := ⟨2, ![32, 112]⟩
abbrev S128x4096 : Shape := ⟨2, ![128, 4096]⟩
abbrev S8x16x14336 : Shape := ⟨3, ![8, 16, 14336]⟩
abbrev S128x14336 : Shape := ⟨2, ![128, 14336]⟩
abbrev S2x256 : Shape := ⟨2, ![2, 256]⟩
abbrev S1x256 : Shape := ⟨2, ![1, 256]⟩
abbrev S1792x4096 : Shape := ⟨2, ![1792, 4096]⟩
abbrev S128x1792 : Shape := ⟨2, ![128, 1792]⟩
abbrev S256x1792 : Shape := ⟨2, ![256, 1792]⟩
abbrev S128x256 : Shape := ⟨2, ![128, 256]⟩
abbrev S128x512 : Shape := ⟨2, ![128, 512]⟩
abbrev S256x8 : Shape := ⟨2, ![256, 8]⟩
abbrev S256x128 : Shape := ⟨2, ![256, 128]⟩
abbrev S8x256 : Shape := ⟨2, ![8, 256]⟩
abbrev S8x1x256 : Shape := ⟨3, ![8, 1, 256]⟩
abbrev S8x16x256 : Shape := ⟨3, ![8, 16, 256]⟩
abbrev S6x256 : Shape := ⟨2, ![6, 256]⟩
abbrev S256 : Shape := ⟨1, ![256]⟩
abbrev S256x1 : Shape := ⟨2, ![256, 1]⟩
abbrev S256x256 : Shape := ⟨2, ![256, 256]⟩
abbrev S512x1792 : Shape := ⟨2, ![512, 1792]⟩
abbrev S1x1 : Shape := ⟨2, ![1, 1]⟩
abbrev S16x128 : Shape := ⟨2, ![16, 128]⟩
abbrev S128x128 : Shape := ⟨2, ![128, 128]⟩
abbrev S8x16x128 : Shape := ⟨3, ![8, 16, 128]⟩
abbrev S1x16x128 : Shape := ⟨3, ![1, 16, 128]⟩
abbrev S1792x128 : Shape := ⟨2, ![1792, 128]⟩
abbrev S1792x512 : Shape := ⟨2, ![1792, 512]⟩
abbrev S256x512 : Shape := ⟨2, ![256, 512]⟩
abbrev S512x4096 : Shape := ⟨2, ![512, 4096]⟩

abbrev nBuf : Space → Nat
  | .hbm => 20
  | .vmem => 24
  | .smem => 1
  | _ => 0

abbrev bufTy : (tb : Table) → Fin (tcTables nBuf tb) → BufTy
  | .hbm, ⟨0, _⟩ => ⟨S256x4096, .bf16⟩
  | .hbm, ⟨1, _⟩ => ⟨S256x14336, .bf16⟩
  | .hbm, ⟨2, _⟩ => ⟨S14336x4096, .fp8e4m3⟩
  | .hbm, ⟨3, _⟩ => ⟨S112x32, .f32⟩
  | .hbm, ⟨4, _⟩ => ⟨S8x16x4096, .bf16⟩
  | .hbm, ⟨5, _⟩ => ⟨S8x14336x16, .bf16⟩
  | .hbm, ⟨6, _⟩ => ⟨S256x2, .i32⟩
  | .hbm, ⟨7, _⟩ => ⟨S256x2, .f32⟩
  | .hbm, ⟨8, _⟩ => ⟨S32x112, .f32⟩
  | .hbm, ⟨9, _⟩ => ⟨S128x4096, .bf16⟩
  | .hbm, ⟨10, _⟩ => ⟨S8x16x14336, .bf16⟩
  | .hbm, ⟨11, _⟩ => ⟨S128x14336, .bf16⟩
  | .hbm, ⟨12, _⟩ => ⟨S2x256, .i32⟩
  | .hbm, ⟨13, _⟩ => ⟨S2x256, .f32⟩
  | .hbm, ⟨14, _⟩ => ⟨S256x4096, .bf16⟩
  | .hbm, ⟨15, _⟩ => ⟨S128x4096, .f32⟩
  | .hbm, ⟨16, _⟩ => ⟨S128x14336, .f32⟩
  | .hbm, ⟨17, _⟩ => ⟨S2x256, .f32⟩
  | .hbm, ⟨18, _⟩ => ⟨S256x14336, .fp8e5m2⟩
  | .hbm, ⟨19, _⟩ => ⟨S1x256, .f32⟩
  | .local _ .vmem, ⟨0, _⟩ => ⟨S256x4096, .bf16⟩
  | .local _ .vmem, ⟨1, _⟩ => ⟨S256x14336, .bf16⟩
  | .local _ .vmem, ⟨2, _⟩ => ⟨S1792x4096, .fp8e4m3⟩
  | .local _ .vmem, ⟨3, _⟩ => ⟨S1792x4096, .fp8e4m3⟩
  | .local _ .vmem, ⟨4, _⟩ => ⟨S128x4096, .bf16⟩
  | .local _ .vmem, ⟨5, _⟩ => ⟨S128x1792, .bf16⟩
  | .local _ .vmem, ⟨6, _⟩ => ⟨S128x1792, .bf16⟩
  | .local _ .vmem, ⟨7, _⟩ => ⟨S2x256, .i32⟩
  | .local _ .vmem, ⟨8, _⟩ => ⟨S2x256, .f32⟩
  | .local _ .vmem, ⟨9, _⟩ => ⟨S256x4096, .bf16⟩
  | .local _ .vmem, ⟨10, _⟩ => ⟨S128x4096, .f32⟩
  | .local _ .vmem, ⟨11, _⟩ => ⟨S128x1792, .f32⟩
  | .local _ .vmem, ⟨12, _⟩ => ⟨S128x1792, .f32⟩
  | .local _ .vmem, ⟨13, _⟩ => ⟨S2x256, .f32⟩
  | .local _ .vmem, ⟨14, _⟩ => ⟨S256x1792, .fp8e5m2⟩
  | .local _ .vmem, ⟨15, _⟩ => ⟨S256x1792, .fp8e5m2⟩
  | .local _ .vmem, ⟨16, _⟩ => ⟨S1x256, .f32⟩
  | .local _ .vmem, ⟨17, _⟩ => ⟨S256x4096, .f32⟩
  | .local _ .vmem, ⟨18, _⟩ => ⟨S128x256, .f32⟩
  | .local _ .vmem, ⟨19, _⟩ => ⟨S128x512, .bf16⟩
  | .local _ .vmem, ⟨20, _⟩ => ⟨S128x256, .f32⟩
  | .local _ .vmem, ⟨21, _⟩ => ⟨S256x8, .f32⟩
  | .local _ .vmem, ⟨22, _⟩ => ⟨S256x128, .bf16⟩
  | .local _ .vmem, ⟨23, _⟩ => ⟨S256x128, .f32⟩
  | .local _ .smem, ⟨0, _⟩ => ⟨S32x112, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16
abbrev cc0_sem13_0 : DmaSem sig := 17

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1792_i32 : BitVec 32 := 1792#32
  let v4 : BitVec 32 := Scalar.muli arg0 c1792_i32
  v4
def k0_off1 (i : grid0.Coords) : Fin 2 → Nat :=
  let c0 : Index := 0#32
  let arg0 : BitVec 32 := BitVec.ofNat 32 (i 0).val
  let c1792_i32 : BitVec 32 := 1792#32
  let v4 : BitVec 32 := Scalar.muli arg0 c1792_i32
  let v5 : BitVec 32 := v4
  let v6 : Index := Scalar.indexCast v5
  ![0, v6.toNat]
def k0_off2 (i : grid0.Coords) (c0_i32_22 : BitVec 32) : Fin 2 → Nat :=
  let c0_23 : Index := 0#32
  let arg0 : BitVec 32 := BitVec.ofNat 32 (i 0).val
  let c14_i32 : BitVec 32 := 14#32
  let v43 : BitVec 32 := Scalar.muli arg0 c14_i32
  let v44 : BitVec 32 := Scalar.addi v43 c0_i32_22
  let v45 : Index := Scalar.indexCast v44
  ![0, v45.toNat]
def k0_off3 (i : grid0.Coords) (c0_i32_66 : BitVec 32) : Fin 2 → Nat :=
  let c1_67 : Index := 1#32
  let arg0 : BitVec 32 := BitVec.ofNat 32 (i 0).val
  let c14_i32_65 : BitVec 32 := 14#32
  let v226 : BitVec 32 := Scalar.muli arg0 c14_i32_65
  let v227 : BitVec 32 := Scalar.addi v226 c0_i32_66
  let v228 : Index := Scalar.indexCast v227
  ![1, v228.toNat]
def k0_off4 (i : grid0.Coords) (c0_i32_136 : BitVec 32) : Fin 2 → Nat :=
  let c2 : Index := 2#32
  let arg0 : BitVec 32 := BitVec.ofNat 32 (i 0).val
  let c14_i32_135 : BitVec 32 := 14#32
  let v409 : BitVec 32 := Scalar.muli arg0 c14_i32_135
  let v410 : BitVec 32 := Scalar.addi v409 c0_i32_136
  let v411 : Index := Scalar.indexCast v410
  ![2, v411.toNat]
def k0_off5 (i : grid0.Coords) (c0_i32_205 : BitVec 32) : Fin 2 → Nat :=
  let c3 : Index := 3#32
  let arg0 : BitVec 32 := BitVec.ofNat 32 (i 0).val
  let c14_i32_204 : BitVec 32 := 14#32
  let v592 : BitVec 32 := Scalar.muli arg0 c14_i32_204
  let v593 : BitVec 32 := Scalar.addi v592 c0_i32_205
  let v594 : Index := Scalar.indexCast v593
  ![3, v594.toNat]
def k0_off6 (i : grid0.Coords) (c0_i32_279 : BitVec 32) : Fin 2 → Nat :=
  let c4 : Index := 4#32
  let arg0 : BitVec 32 := BitVec.ofNat 32 (i 0).val
  let c14_i32_278 : BitVec 32 := 14#32
  let v782 : BitVec 32 := Scalar.muli arg0 c14_i32_278
  let v783 : BitVec 32 := Scalar.addi v782 c0_i32_279
  let v784 : Index := Scalar.indexCast v783
  ![4, v784.toNat]
def k0_off7 (i : grid0.Coords) (c0_i32_348 : BitVec 32) : Fin 2 → Nat :=
  let c5 : Index := 5#32
  let arg0 : BitVec 32 := BitVec.ofNat 32 (i 0).val
  let c14_i32_347 : BitVec 32 := 14#32
  let v965 : BitVec 32 := Scalar.muli arg0 c14_i32_347
  let v966 : BitVec 32 := Scalar.addi v965 c0_i32_348
  let v967 : Index := Scalar.indexCast v966
  ![5, v967.toNat]
def k0_off8 (i : grid0.Coords) (c0_i32_417 : BitVec 32) : Fin 2 → Nat :=
  let c6 : Index := 6#32
  let arg0 : BitVec 32 := BitVec.ofNat 32 (i 0).val
  let c14_i32_416 : BitVec 32 := 14#32
  let v1148 : BitVec 32 := Scalar.muli arg0 c14_i32_416
  let v1149 : BitVec 32 := Scalar.addi v1148 c0_i32_417
  let v1150 : Index := Scalar.indexCast v1149
  ![6, v1150.toNat]
def k0_off9 (i : grid0.Coords) (c0_i32_486 : BitVec 32) : Fin 2 → Nat :=
  let c7 : Index := 7#32
  let arg0 : BitVec 32 := BitVec.ofNat 32 (i 0).val
  let c14_i32_485 : BitVec 32 := 14#32
  let v1331 : BitVec 32 := Scalar.muli arg0 c14_i32_485
  let v1332 : BitVec 32 := Scalar.addi v1331 c0_i32_486
  let v1333 : Index := Scalar.indexCast v1332
  ![7, v1333.toNat]
def k0_off10 (i : grid0.Coords) (c0_i32_560 : BitVec 32) : Fin 2 → Nat :=
  let c8 : Index := 8#32
  let arg0 : BitVec 32 := BitVec.ofNat 32 (i 0).val
  let c14_i32_559 : BitVec 32 := 14#32
  let v1521 : BitVec 32 := Scalar.muli arg0 c14_i32_559
  let v1522 : BitVec 32 := Scalar.addi v1521 c0_i32_560
  let v1523 : Index := Scalar.indexCast v1522
  ![8, v1523.toNat]
def k0_off11 (i : grid0.Coords) (c0_i32_629 : BitVec 32) : Fin 2 → Nat :=
  let c9 : Index := 9#32
  let arg0 : BitVec 32 := BitVec.ofNat 32 (i 0).val
  let c14_i32_628 : BitVec 32 := 14#32
  let v1704 : BitVec 32 := Scalar.muli arg0 c14_i32_628
  let v1705 : BitVec 32 := Scalar.addi v1704 c0_i32_629
  let v1706 : Index := Scalar.indexCast v1705
  ![9, v1706.toNat]
def k0_off12 (i : grid0.Coords) (c0_i32_698 : BitVec 32) : Fin 2 → Nat :=
  let c10 : Index := 10#32
  let arg0 : BitVec 32 := BitVec.ofNat 32 (i 0).val
  let c14_i32_697 : BitVec 32 := 14#32
  let v1887 : BitVec 32 := Scalar.muli arg0 c14_i32_697
  let v1888 : BitVec 32 := Scalar.addi v1887 c0_i32_698
  let v1889 : Index := Scalar.indexCast v1888
  ![10, v1889.toNat]
def k0_off13 (i : grid0.Coords) (c0_i32_767 : BitVec 32) : Fin 2 → Nat :=
  let c11 : Index := 11#32
  let arg0 : BitVec 32 := BitVec.ofNat 32 (i 0).val
  let c14_i32_766 : BitVec 32 := 14#32
  let v2070 : BitVec 32 := Scalar.muli arg0 c14_i32_766
  let v2071 : BitVec 32 := Scalar.addi v2070 c0_i32_767
  let v2072 : Index := Scalar.indexCast v2071
  ![11, v2072.toNat]
def k0_off14 (i : grid0.Coords) (c0_i32_841 : BitVec 32) : Fin 2 → Nat :=
  let c12 : Index := 12#32
  let arg0 : BitVec 32 := BitVec.ofNat 32 (i 0).val
  let c14_i32_840 : BitVec 32 := 14#32
  let v2260 : BitVec 32 := Scalar.muli arg0 c14_i32_840
  let v2261 : BitVec 32 := Scalar.addi v2260 c0_i32_841
  let v2262 : Index := Scalar.indexCast v2261
  ![12, v2262.toNat]
def k0_off15 (i : grid0.Coords) (c0_i32_910 : BitVec 32) : Fin 2 → Nat :=
  let c13 : Index := 13#32
  let arg0 : BitVec 32 := BitVec.ofNat 32 (i 0).val
  let c14_i32_909 : BitVec 32 := 14#32
  let v2443 : BitVec 32 := Scalar.muli arg0 c14_i32_909
  let v2444 : BitVec 32 := Scalar.addi v2443 c0_i32_910
  let v2445 : Index := Scalar.indexCast v2444
  ![13, v2445.toNat]
def k0_off16 (i : grid0.Coords) (c0_i32_979 : BitVec 32) : Fin 2 → Nat :=
  let c14 : Index := 14#32
  let arg0 : BitVec 32 := BitVec.ofNat 32 (i 0).val
  let c14_i32_978 : BitVec 32 := 14#32
  let v2626 : BitVec 32 := Scalar.muli arg0 c14_i32_978
  let v2627 : BitVec 32 := Scalar.addi v2626 c0_i32_979
  let v2628 : Index := Scalar.indexCast v2627
  ![14, v2628.toNat]
def k0_off17 (i : grid0.Coords) (c0_i32_1047 : BitVec 32) : Fin 2 → Nat :=
  let c15 : Index := 15#32
  let arg0 : BitVec 32 := BitVec.ofNat 32 (i 0).val
  let c14_i32_1046 : BitVec 32 := 14#32
  let v2809 : BitVec 32 := Scalar.muli arg0 c14_i32_1046
  let v2810 : BitVec 32 := Scalar.addi v2809 c0_i32_1047
  let v2811 : Index := Scalar.indexCast v2810
  ![15, v2811.toNat]
def k0_off18 (i : grid0.Coords) (c0_i32_1120 : BitVec 32) : Fin 2 → Nat :=
  let c16 : Index := 16#32
  let arg0 : BitVec 32 := BitVec.ofNat 32 (i 0).val
  let c14_i32_1119 : BitVec 32 := 14#32
  let v2999 : BitVec 32 := Scalar.muli arg0 c14_i32_1119
  let v3000 : BitVec 32 := Scalar.addi v2999 c0_i32_1120
  let v3001 : Index := Scalar.indexCast v3000
  ![16, v3001.toNat]
def k0_off19 (i : grid0.Coords) (c0_i32_1188 : BitVec 32) : Fin 2 → Nat :=
  let c17 : Index := 17#32
  let arg0 : BitVec 32 := BitVec.ofNat 32 (i 0).val
  let c14_i32_1187 : BitVec 32 := 14#32
  let v3182 : BitVec 32 := Scalar.muli arg0 c14_i32_1187
  let v3183 : BitVec 32 := Scalar.addi v3182 c0_i32_1188
  let v3184 : Index := Scalar.indexCast v3183
  ![17, v3184.toNat]
def k0_off20 (i : grid0.Coords) (c0_i32_1256 : BitVec 32) : Fin 2 → Nat :=
  let c18 : Index := 18#32
  let arg0 : BitVec 32 := BitVec.ofNat 32 (i 0).val
  let c14_i32_1255 : BitVec 32 := 14#32
  let v3365 : BitVec 32 := Scalar.muli arg0 c14_i32_1255
  let v3366 : BitVec 32 := Scalar.addi v3365 c0_i32_1256
  let v3367 : Index := Scalar.indexCast v3366
  ![18, v3367.toNat]
def k0_off21 (i : grid0.Coords) (c0_i32_1324 : BitVec 32) : Fin 2 → Nat :=
  let c19 : Index := 19#32
  let arg0 : BitVec 32 := BitVec.ofNat 32 (i 0).val
  let c14_i32_1323 : BitVec 32 := 14#32
  let v3548 : BitVec 32 := Scalar.muli arg0 c14_i32_1323
  let v3549 : BitVec 32 := Scalar.addi v3548 c0_i32_1324
  let v3550 : Index := Scalar.indexCast v3549
  ![19, v3550.toNat]
def k0_off22 (i : grid0.Coords) (c0_i32_1397 : BitVec 32) : Fin 2 → Nat :=
  let c20 : Index := 20#32
  let arg0 : BitVec 32 := BitVec.ofNat 32 (i 0).val
  let c14_i32_1396 : BitVec 32 := 14#32
  let v3738 : BitVec 32 := Scalar.muli arg0 c14_i32_1396
  let v3739 : BitVec 32 := Scalar.addi v3738 c0_i32_1397
  let v3740 : Index := Scalar.indexCast v3739
  ![20, v3740.toNat]
def k0_off23 (i : grid0.Coords) (c0_i32_1465 : BitVec 32) : Fin 2 → Nat :=
  let c21 : Index := 21#32
  let arg0 : BitVec 32 := BitVec.ofNat 32 (i 0).val
  let c14_i32_1464 : BitVec 32 := 14#32
  let v3921 : BitVec 32 := Scalar.muli arg0 c14_i32_1464
  let v3922 : BitVec 32 := Scalar.addi v3921 c0_i32_1465
  let v3923 : Index := Scalar.indexCast v3922
  ![21, v3923.toNat]
def k0_off24 (i : grid0.Coords) (c0_i32_1533 : BitVec 32) : Fin 2 → Nat :=
  let c22 : Index := 22#32
  let arg0 : BitVec 32 := BitVec.ofNat 32 (i 0).val
  let c14_i32_1532 : BitVec 32 := 14#32
  let v4104 : BitVec 32 := Scalar.muli arg0 c14_i32_1532
  let v4105 : BitVec 32 := Scalar.addi v4104 c0_i32_1533
  let v4106 : Index := Scalar.indexCast v4105
  ![22, v4106.toNat]
def k0_off25 (i : grid0.Coords) (c0_i32_1601 : BitVec 32) : Fin 2 → Nat :=
  let c23 : Index := 23#32
  let arg0 : BitVec 32 := BitVec.ofNat 32 (i 0).val
  let c14_i32_1600 : BitVec 32 := 14#32
  let v4287 : BitVec 32 := Scalar.muli arg0 c14_i32_1600
  let v4288 : BitVec 32 := Scalar.addi v4287 c0_i32_1601
  let v4289 : Index := Scalar.indexCast v4288
  ![23, v4289.toNat]
def k0_off26 (i : grid0.Coords) (c0_i32_1674 : BitVec 32) : Fin 2 → Nat :=
  let c24 : Index := 24#32
  let arg0 : BitVec 32 := BitVec.ofNat 32 (i 0).val
  let c14_i32_1673 : BitVec 32 := 14#32
  let v4477 : BitVec 32 := Scalar.muli arg0 c14_i32_1673
  let v4478 : BitVec 32 := Scalar.addi v4477 c0_i32_1674
  let v4479 : Index := Scalar.indexCast v4478
  ![24, v4479.toNat]
def k0_off27 (i : grid0.Coords) (c0_i32_1742 : BitVec 32) : Fin 2 → Nat :=
  let c25 : Index := 25#32
  let arg0 : BitVec 32 := BitVec.ofNat 32 (i 0).val
  let c14_i32_1741 : BitVec 32 := 14#32
  let v4660 : BitVec 32 := Scalar.muli arg0 c14_i32_1741
  let v4661 : BitVec 32 := Scalar.addi v4660 c0_i32_1742
  let v4662 : Index := Scalar.indexCast v4661
  ![25, v4662.toNat]
def k0_off28 (i : grid0.Coords) (c0_i32_1810 : BitVec 32) : Fin 2 → Nat :=
  let c26 : Index := 26#32
  let arg0 : BitVec 32 := BitVec.ofNat 32 (i 0).val
  let c14_i32_1809 : BitVec 32 := 14#32
  let v4843 : BitVec 32 := Scalar.muli arg0 c14_i32_1809
  let v4844 : BitVec 32 := Scalar.addi v4843 c0_i32_1810
  let v4845 : Index := Scalar.indexCast v4844
  ![26, v4845.toNat]
def k0_off29 (i : grid0.Coords) (c0_i32_1878 : BitVec 32) : Fin 2 → Nat :=
  let c27 : Index := 27#32
  let arg0 : BitVec 32 := BitVec.ofNat 32 (i 0).val
  let c14_i32_1877 : BitVec 32 := 14#32
  let v5026 : BitVec 32 := Scalar.muli arg0 c14_i32_1877
  let v5027 : BitVec 32 := Scalar.addi v5026 c0_i32_1878
  let v5028 : Index := Scalar.indexCast v5027
  ![27, v5028.toNat]
def k0_off30 (i : grid0.Coords) (c0_i32_1951 : BitVec 32) : Fin 2 → Nat :=
  let c28 : Index := 28#32
  let arg0 : BitVec 32 := BitVec.ofNat 32 (i 0).val
  let c14_i32_1950 : BitVec 32 := 14#32
  let v5216 : BitVec 32 := Scalar.muli arg0 c14_i32_1950
  let v5217 : BitVec 32 := Scalar.addi v5216 c0_i32_1951
  let v5218 : Index := Scalar.indexCast v5217
  ![28, v5218.toNat]
def k0_off31 (i : grid0.Coords) (c0_i32_2019 : BitVec 32) : Fin 2 → Nat :=
  let c29 : Index := 29#32
  let arg0 : BitVec 32 := BitVec.ofNat 32 (i 0).val
  let c14_i32_2018 : BitVec 32 := 14#32
  let v5399 : BitVec 32 := Scalar.muli arg0 c14_i32_2018
  let v5400 : BitVec 32 := Scalar.addi v5399 c0_i32_2019
  let v5401 : Index := Scalar.indexCast v5400
  ![29, v5401.toNat]
def k0_off32 (i : grid0.Coords) (c0_i32_2087 : BitVec 32) : Fin 2 → Nat :=
  let c30 : Index := 30#32
  let arg0 : BitVec 32 := BitVec.ofNat 32 (i 0).val
  let c14_i32_2086 : BitVec 32 := 14#32
  let v5582 : BitVec 32 := Scalar.muli arg0 c14_i32_2086
  let v5583 : BitVec 32 := Scalar.addi v5582 c0_i32_2087
  let v5584 : Index := Scalar.indexCast v5583
  ![30, v5584.toNat]
def k0_off33 (i : grid0.Coords) (c0_i32_2155 : BitVec 32) : Fin 2 → Nat :=
  let c31 : Index := 31#32
  let arg0 : BitVec 32 := BitVec.ofNat 32 (i 0).val
  let c14_i32_2154 : BitVec 32 := 14#32
  let v5765 : BitVec 32 := Scalar.muli arg0 c14_i32_2154
  let v5766 : BitVec 32 := Scalar.addi v5765 c0_i32_2155
  let v5767 : Index := Scalar.indexCast v5766
  ![31, v5767.toNat]
def k0_cond2 (i : grid0.Coords) : BitVec 1 :=
  let arg0 : BitVec 32 := BitVec.ofNat 32 (i 0).val
  let c7_i32_2227 : BitVec 32 := 7#32
  let v5955 : BitVec 1 := Scalar.cmpi .eq arg0 c7_i32_2227
  let v5956 : BitVec 32 := Scalar.extui v5955
  let c0_i32_2228 : BitVec 32 := 0#32
  let v5957 : BitVec 1 := Scalar.cmpi .ne v5956 c0_i32_2228
  v5957

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S32x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1792 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S256x4096 : Shape := ⟨2, ![256, 4096]⟩
abbrev S256x14336 : Shape := ⟨2, ![256, 14336]⟩
abbrev S14336x4096 : Shape := ⟨2, ![14336, 4096]⟩
abbrev S112x32 : Shape := ⟨2, ![112, 32]⟩
abbrev S8x16x4096 : Shape := ⟨3, ![8, 16, 4096]⟩
abbrev S8x14336x16 : Shape := ⟨3, ![8, 14336, 16]⟩
abbrev S256x2 : Shape := ⟨2, ![256, 2]⟩
abbrev S128x4096 : Shape := ⟨2, ![128, 4096]⟩
abbrev S14336x8x16 : Shape := ⟨3, ![14336, 8, 16]⟩
abbrev S14336x128 : Shape := ⟨2, ![14336, 128]⟩
abbrev S128x14336 : Shape := ⟨2, ![128, 14336]⟩
abbrev S2x256 : Shape := ⟨2, ![2, 256]⟩
abbrev S1x256 : Shape := ⟨2, ![1, 256]⟩
abbrev S256 : Shape := ⟨1, ![256]⟩
abbrev S256x1 : Shape := ⟨2, ![256, 1]⟩
abbrev S256x256 : Shape := ⟨2, ![256, 256]⟩
abbrev S112x128x32x128 : Shape := ⟨4, ![112, 128, 32, 128]⟩
abbrev S112x1x32x1 : Shape := ⟨4, ![112, 1, 32, 1]⟩
abbrev S256x128 : Shape := ⟨2, ![256, 128]⟩

abbrev nBuf : Space → Nat
  | .hbm => 17
  | .vmem => 14
  | .smem => 0
  | _ => 0

abbrev bufTy : (tb : Table) → Fin (tcTables nBuf tb) → BufTy
  | .hbm, ⟨0, _⟩ => ⟨S256x4096, .bf16⟩
  | .hbm, ⟨1, _⟩ => ⟨S256x14336, .bf16⟩
  | .hbm, ⟨2, _⟩ => ⟨S14336x4096, .fp8e4m3⟩
  | .hbm, ⟨3, _⟩ => ⟨S112x32, .f32⟩
  | .hbm, ⟨4, _⟩ => ⟨S8x16x4096, .bf16⟩
  | .hbm, ⟨5, _⟩ => ⟨S8x14336x16, .bf16⟩
  | .hbm, ⟨6, _⟩ => ⟨S256x2, .i32⟩
  | .hbm, ⟨7, _⟩ => ⟨S256x2, .f32⟩
  | .hbm, ⟨8, _⟩ => ⟨S128x4096, .bf16⟩
  | .hbm, ⟨9, _⟩ => ⟨S14336x8x16, .bf16⟩
  | .hbm, ⟨10, _⟩ => ⟨S14336x128, .bf16⟩
  | .hbm, ⟨11, _⟩ => ⟨S256x4096, .bf16⟩
  | .hbm, ⟨12, _⟩ => ⟨S128x4096, .f32⟩
  | .hbm, ⟨13, _⟩ => ⟨S128x14336, .f32⟩
  | .hbm, ⟨14, _⟩ => ⟨S2x256, .f32⟩
  | .hbm, ⟨15, _⟩ => ⟨S256x14336, .fp8e5m2⟩
  | .hbm, ⟨16, _⟩ => ⟨S1x256, .f32⟩
  | .local _ .vmem, ⟨0, _⟩ => ⟨S256x4096, .bf16⟩
  | .local _ .vmem, ⟨1, _⟩ => ⟨S256x14336, .bf16⟩
  | .local _ .vmem, ⟨2, _⟩ => ⟨S14336x4096, .fp8e4m3⟩
  | .local _ .vmem, ⟨3, _⟩ => ⟨S112x32, .f32⟩
  | .local _ .vmem, ⟨4, _⟩ => ⟨S128x4096, .bf16⟩
  | .local _ .vmem, ⟨5, _⟩ => ⟨S14336x128, .bf16⟩
  | .local _ .vmem, ⟨6, _⟩ => ⟨S256x2, .i32⟩
  | .local _ .vmem, ⟨7, _⟩ => ⟨S256x2, .f32⟩
  | .local _ .vmem, ⟨8, _⟩ => ⟨S256x4096, .bf16⟩
  | .local _ .vmem, ⟨9, _⟩ => ⟨S128x4096, .f32⟩
  | .local _ .vmem, ⟨10, _⟩ => ⟨S128x14336, .f32⟩
  | .local _ .vmem, ⟨11, _⟩ => ⟨S2x256, .f32⟩
  | .local _ .vmem, ⟨12, _⟩ => ⟨S256x14336, .fp8e5m2⟩
  | .local _ .vmem, ⟨13, _⟩ => ⟨S1x256, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x14336 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x14336 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Run.Points.lean ====
/- What the three runs of the idealised kernel's body are stated over: the branch conditions in closed form
   over the grid points, where each window is idle, and the staging and scratch buffers. -/
module

public import proofs.«01_k».proof.Proof.Gen.KernelIdeal.Skeleton
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 10 is never idle (an output stored at every point, under no condition). -/
theorem liveAt0_10 : ∀ t : Fin cfg0.N, cfg0.idle 10 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel
/-- At the points of case A the printed configuration (`Cfg.idle`) calls output 13 live: the case stores into it. -/
theorem liveAt0_13_A : ∀ t : Fin cfg0.N, cond0_0 (grid0.coords t) → ¬cond0_1 (grid0.coords t) → cfg0.idle 13 (grid0.coords t) = false := by decide +kernel
/-- At the points of case B the printed configuration (`Cfg.idle`) calls output 13 idle: the case stores nothing into it. -/
theorem idleAt0_13_B : ∀ t : Fin cfg0.N, ¬cond0_0 (grid0.coords t) → ¬cond0_1 (grid0.coords t) → cfg0.idle 13 (grid0.coords t) = true := by decide +kernel
/-- At the points of case B the pipeline does not write output 13's block back. -/
theorem noFlush0_13_B : ∀ t : Fin cfg0.N, ¬cond0_0 (grid0.coords t) → ¬cond0_1 (grid0.coords t) → (cfg0.win 13).flush t = false := by decide +kernel
/-- At the points of case C the printed configuration calls output 13 idle. -/
theorem idleAt0_13_C : ∀ t : Fin cfg0.N, ¬cond0_0 (grid0.coords t) → cond0_1 (grid0.coords t) → cfg0.idle 13 (grid0.coords t) = true := by decide +kernel
/-- And the pipeline writes its block back there. -/
theorem flush0_13_C : ∀ t : Fin cfg0.N, ¬cond0_0 (grid0.coords t) → cond0_1 (grid0.coords t) → (cfg0.win 13).flush t = true := by decide +kernel

/-! ## The kernel body on any staging memrefs: a subtype the run finds -/

/-- One staging buffer of output window 8, through which its contents are stated (`View.read_writes_of_cover`: the
    choice does not matter). -/
abbrev VO0_8 : View sig .tc .vmem S256x4096 .bf16 := (Memref.whole cc0_stg8_0 : Memref sig .tc .vmem S256x4096 .bf16).view
/-- One staging buffer of output window 9, through which its contents are stated (`View.read_writes_of_cover`: the
    choice does not matter). -/
abbrev VO0_9 : View sig .tc .vmem S128x4096 .f32 := (Memref.whole cc0_stg9_0 : Memref sig .tc .vmem S128x4096 .f32).view
/-- One staging buffer of output window 10, through which its contents are stated (`View.read_writes_of_cover`: the
    choice does not matter). -/
abbrev VO0_10 : View sig .tc .vmem S128x1792 .f32 := (Memref.whole cc0_stg10_0 : Memref sig .tc .vmem S128x1792 .f32).view
/-- One staging buffer of output window 11, through which its contents are stated (`View.read_writes_of_cover`: the
    choice does not matter). -/
abbrev VO0_11 : View sig .tc .vmem S2x256 .f32 := (Memref.whole cc0_stg11_0 : Memref sig .tc .vmem S2x256 .f32).view
/-- One staging buffer of output window 12, through which its contents are stated (`View.read_writes_of_cover`: the
    choice does not matter). -/
abbrev VO0_12 : View sig .tc .vmem S256x1792 .fp8e5m2 := (Memref.whole cc0_stg12_0 : Memref sig .tc .vmem S256x1792 .fp8e5m2).view
/-- One staging buffer of output window 13, through which its contents are stated (`View.read_writes_of_cover`: the
    choice does not matter). -/
abbrev VO0_13 : View sig .tc .vmem S1x256 .f32 := (Memref.whole cc0_stg13_0 : Memref sig .tc .vmem S1x256 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x14336 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S32x112 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1792 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1792 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1792 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x4096 .f32 := Memref.whole cc0_scratch0
abbrev scM0_1 : Memref sig .tc .vmem S128x256 .f32 := Memref.whole cc0_scratch1
abbrev scM0_2 : Memref sig .tc .vmem S128x512 .bf16 := Memref.whole cc0_scratch2
abbrev scM0_3 : Memref sig .tc .vmem S128x256 .f32 := Memref.whole cc0_scratch3
abbrev scM0_4 : Memref sig .tc .vmem S256x8 .f32 := Memref.whole cc0_scratch4
abbrev scM0_5 : Memref sig .tc .vmem S256x128 .bf16 := Memref.whole cc0_scratch5
abbrev scM0_6 : Memref sig .tc .vmem S256x128 .f32 := Memref.whole cc0_scratch6
/-- The scratch `arg15` the kernel carries between points, as a view: what it holds is stated through it. -/
abbrev VS0_0 : View sig .tc .vmem S256x4096 .f32 := scM0_0.view
/-- The scratch `arg16` the kernel carries between points, as a view: what it holds is stated through it. -/
abbrev VS0_1 : View sig .tc .vmem S128x256 .f32 := scM0_1.view
/-- The scratch `arg17` the kernel carries between points, as a view: what it holds is stated through it. -/
abbrev VS0_2 : View sig .tc .vmem S128x512 .bf16 := scM0_2.view
/-- The scratch `arg18` the kernel carries between points, as a view: what it holds is stated through it. -/
abbrev VS0_3 : View sig .tc .vmem S128x256 .f32 := scM0_3.view
/-- The scratch `arg19` the kernel carries between points, as a view: what it holds is stated through it. -/
abbrev VS0_4 : View sig .tc .vmem S256x8 .f32 := scM0_4.view
/-- The scratch `arg20` the kernel carries between points, as a view: what it holds is stated through it. -/
abbrev VS0_5 : View sig .tc .vmem S256x128 .bf16 := scM0_5.view
/-- The scratch `arg21` the kernel carries between points, as a view: what it holds is stated through it. -/
abbrev VS0_6 : View sig .tc .vmem S256x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Hand

end
-- ==== Proof.Run.RunA.lean ====
/- The run of the idealised kernel's body at the points of case A: the stores each buffer ends with. -/
module

public import proofs.«01_k».proof.Proof.Run.Points

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11008000 in
/-- What the body's stores leave in each output's staging memref, as pieces (last first) IN CASE A (`scf.if` 0 taken, `scf.if` 1 not taken: points 0), WITH the
    proof that on whole staging memrefs — the inputs' at their contents, the outputs it leaves idle (8, 9, 11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S256x14336 .bf16) (harg2 : arg2.IsWhole) (arg3 : Memref sig .tc .vmem S1792x4096 .fp8e4m3) (harg3 : arg3.IsWhole) (arg4 : Memref sig .tc .smem S32x112 .f32) (harg4 : arg4.IsWhole) (arg5 : Memref sig .tc .vmem S128x4096 .bf16) (harg5 : arg5.IsWhole) (arg6 : Memref sig .tc .vmem S128x1792 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S256x4096 .bf16) (harg9 : arg9.IsWhole) (arg10 : Memref sig .tc .vmem S128x4096 .f32) (harg10 : arg10.IsWhole) (arg11 : Memref sig .tc .vmem S128x1792 .f32) (harg11 : arg11.IsWhole) (arg12 : Memref sig .tc .vmem S2x256 .f32) (harg12 : arg12.IsWhole) (arg13 : Memref sig .tc .vmem S256x1792 .fp8e5m2) (harg13 : arg13.IsWhole) (arg14 : Memref sig .tc .vmem S1x256 .f32) (harg14 : arg14.IsWhole) (arg15 : Memref sig .tc .vmem S256x4096 .f32) (harg15 : arg15.IsWhole) (arg16 : Memref sig .tc .vmem S128x256 .f32) (harg16 : arg16.IsWhole) (arg17 : Memref sig .tc .vmem S128x512 .bf16) (harg17 : arg17.IsWhole) (arg18 : Memref sig .tc .vmem S128x256 .f32) (harg18 : arg18.IsWhole) (arg19 : Memref sig .tc .vmem S256x8 .f32) (harg19 : arg19.IsWhole) (arg20 : Memref sig .tc .vmem S256x128 .bf16) (harg20 : arg20.IsWhole) (arg21 : Memref sig .tc .vmem S256x128 .f32) (harg21 : arg21.IsWhole) (hc0 : cond0_0 i) (hc1 : ¬cond0_1 i)
    (x0 : Vec F S256x4096 .bf16) (x1 : Vec F S256x14336 .bf16) (x2 : Vec F S1792x4096 .fp8e4m3) (x3 : Vec F S32x112 .f32) (x4 : Vec F S128x4096 .bf16) (x5 : Vec F S128x1792 .bf16) (x6 : Vec F S2x256 .i32) (x7 : Vec F S2x256 .f32) :
    Σ' (L8 : List (View.Piece (Elt F) S256x4096 .bf16)), Σ' (L9 : List (View.Piece (Elt F) S128x4096 .f32)), Σ' (L10 : List (View.Piece (Elt F) S128x1792 .f32)), Σ' (L11 : List (View.Piece (Elt F) S2x256 .f32)), Σ' (L12 : List (View.Piece (Elt F) S256x1792 .fp8e5m2)), Σ' (L13 : List (View.Piece (Elt F) S1x256 .f32)), Σ' (LS0 : List (View.Piece (Elt F) S256x4096 .f32)), Σ' (LS1 : List (View.Piece (Elt F) S128x256 .f32)), Σ' (LS2 : List (View.Piece (Elt F) S128x512 .bf16)), Σ' (LS3 : List (View.Piece (Elt F) S128x256 .f32)), Σ' (LS4 : List (View.Piece (Elt F) S256x8 .f32)), Σ' (LS5 : List (View.Piece (Elt F) S256x128 .bf16)), { LS6 : List (View.Piece (Elt F) S256x128 .f32) //
      ∀ (xi8 : Vec F S256x4096 .bf16) (xi9 : Vec F S128x4096 .f32) (xi11 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4) ∗ (∃ f, arg20.view.loc (c : Thread nD τ) ↦[arg20.view.set]{fullShare} arg20.view.writes (Elt F) f LS5) ∗ (∃ f, arg21.view.loc (c : Thread nD τ) ↦[arg21.view.set]{fullShare} arg21.view.writes (Elt F) f LS6)) -∗ K ⟨⟩))
          ⊢ wp frame (wpE (defs₀ (F := F)) Variants.none c none) E (cc0_mixlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, [], ?_, ?_, ?_, ?_, ?_, ?_, ?_, ?_, ?_, fun xi8 xi9 xi11 E K => ?run⟩
  case run =>
    simp only [cc0_mixlora_bwd_eq_skeleton]; unfold cc0_mixlora_bwd_skel
    simp only [k0_part155_eq_skeleton, k0_part17_eq_skeleton, k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part156_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Hand

end
-- ==== Proof.Run.RunB.lean ====
/- The run of the idealised kernel's body at the points of case B: the stores each buffer ends with. -/
module

public import proofs.«01_k».proof.Proof.Run.Points

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10328000 in
/-- What the body's stores leave in each output's staging memref, as pieces (last first) IN CASE B (`scf.if` 0 not taken, `scf.if` 1 not taken: points 1, 2, 3, 4, 5, 6), WITH the
    proof that on whole staging memrefs — the inputs' at their contents, the outputs it leaves idle (8, 9, 11, 13: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x4096 .bf16) (harg1 : arg1.IsWhole) (arg2 : Memref sig .tc .vmem S256x14336 .bf16) (harg2 : arg2.IsWhole) (arg3 : Memref sig .tc .vmem S1792x4096 .fp8e4m3) (harg3 : arg3.IsWhole) (arg4 : Memref sig .tc .smem S32x112 .f32) (harg4 : arg4.IsWhole) (arg5 : Memref sig .tc .vmem S128x4096 .bf16) (harg5 : arg5.IsWhole) (arg6 : Memref sig .tc .vmem S128x1792 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S256x4096 .bf16) (harg9 : arg9.IsWhole) (arg10 : Memref sig .tc .vmem S128x4096 .f32) (harg10 : arg10.IsWhole) (arg11 : Memref sig .tc .vmem S128x1792 .f32) (harg11 : arg11.IsWhole) (arg12 : Memref sig .tc .vmem S2x256 .f32) (harg12 : arg12.IsWhole) (arg13 : Memref sig .tc .vmem S256x1792 .fp8e5m2) (harg13 : arg13.IsWhole) (arg14 : Memref sig .tc .vmem S1x256 .f32) (harg14 : arg14.IsWhole) (arg15 : Memref sig .tc .vmem S256x4096 .f32) (harg15 : arg15.IsWhole) (arg16 : Memref sig .tc .vmem S128x256 .f32) (harg16 : arg16.IsWhole) (arg17 : Memref sig .tc .vmem S128x512 .bf16) (harg17 : arg17.IsWhole) (arg18 : Memref sig .tc .vmem S128x256 .f32) (harg18 : arg18.IsWhole) (arg19 : Memref sig .tc .vmem S256x8 .f32) (harg19 : arg19.IsWhole) (arg20 : Memref sig .tc .vmem S256x128 .bf16) (harg20 : arg20.IsWhole) (arg21 : Memref sig .tc .vmem S256x128 .f32) (harg21 : arg21.IsWhole) (hc0 : ¬cond0_0 i) (hc1 : ¬cond0_1 i)
    (x0 : Vec F S256x4096 .bf16) (x1 : Vec F S256x14336 .bf16) (x2 : Vec F S1792x4096 .fp8e4m3) (x3 : Vec F S32x112 .f32) (x4 : Vec F S128x4096 .bf16) (x5 : Vec F S128x1792 .bf16) (x6 : Vec F S2x256 .i32) (x7 : Vec F S2x256 .f32) (xs0 : Vec F S256x4096 .f32) (xs1 : Vec F S128x256 .f32) (xs2 : Vec F S128x512 .bf16) (xs3 : Vec F S128x256 .f32) (xs4 : Vec F S256x8 .f32) (xs5 : Vec F S256x128 .bf16) (xs6 : Vec F S256x128 .f32) :
    Σ' (L8 : List (View.Piece (Elt F) S256x4096 .bf16)), Σ' (L9 : List (View.Piece (Elt F) S128x4096 .f32)), Σ' (L10 : List (View.Piece (Elt F) S128x1792 .f32)), Σ' (L11 : List (View.Piece (Elt F) S2x256 .f32)), Σ' (L12 : List (View.Piece (Elt F) S256x1792 .fp8e5m2)), Σ' (L13 : List (View.Piece (Elt F) S1x256 .f32)), Σ' (LS0 : List (View.Piece (Elt F) S256x4096 .f32)), Σ' (LS1 : List (View.Piece (Elt F) S128x256 .f32)), Σ' (LS2 : List (View.Piece (Elt F) S128x512 .bf16)), Σ' (LS3 : List (View.Piece (Elt F) S128x256 .f32)), Σ' (LS4 : List (View.Piece (Elt F) S256x8 .f32)), Σ' (LS5 : List (View.Piece (Elt F) S256x128 .bf16)), { LS6 : List (View.Piece (Elt F) S256x128 .f32) //
      ∀ (xi8 : Vec F S256x4096 .bf16) (xi9 : Vec F S128x4096 .f32) (xi11 : Vec F S2x256 .f32) (xi13 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ owns (c : Thread nD τ) arg12 fullShare xi11 ∗ (∃ d, owns (c : Thread nD τ) arg13 fullShare d) ∗ owns (c : Thread nD τ) arg14 fullShare xi13 ∗ owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5 ∗ owns (c : Thread nD τ) arg21 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0) ∗ owns (c : Thread nD τ) arg16 fullShare xs1 ∗ owns (c : Thread nD τ) arg17 fullShare xs2 ∗ (∃ f, arg18.view.loc (c : Thread nD τ) ↦[arg18.view.set]{fullShare} arg18.view.writes (Elt F) f LS3) ∗ owns (c : Thread nD τ) arg19 fullShare xs4 ∗ owns (c : Thread nD τ) arg20 fullShare xs5 ∗ owns (c : Thread nD τ) arg21 fullShare xs6) -∗ K ⟨⟩))
          ⊢ wp frame (wpE (defs₀ (F := F)) Variants.none c none) E (cc0_mixlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, [], ?_, [], ?_, [], [], ?_, [], [], [], fun xi8 xi9 xi11 xi13 E K => ?run⟩
  case run =>
    simp only [cc0_mixlora_bwd_eq_skeleton]; unfold cc0_mixlora_bwd_skel
    simp only [k0_part155_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part156_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg14.eq_unread hf13; obtain rfl := harg15.eq_unread hfs0; obtain rfl := harg16.eq_unread hfs1; obtain rfl := harg17.eq_unread hfs2; obtain rfl := harg18.eq_unread hfs3; obtain rfl := harg19.eq_unread hfs4; obtain rfl := harg20.eq_unread hfs5; obtain rfl := harg21.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [HS0]; · iexists _; iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    isplitl [HS4]
    · iexists _; isplitr; · ipureintro; exact harg19.read_unread _
      iexact HS4
    isplitl [HS5]
    · iexists _; isplitr; · ipureintro; exact harg20.read_unread _
      iexact HS5
    iexists _; isplitr; · ipureintro; exact harg21.read_unread _
    iexact HS6

end Cert.KernelIdeal.Hand

end
-- ==== Proof.Run.RunC.lean ====
/- The run of the idealised kernel's body at the points of case C: the stores each buffer ends with. -/
module

public import proofs.«01_k».proof.Proof.Run.Points

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10564000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x4096 .bf16) (harg1 : arg1.IsWhole) (arg2 : Memref sig .tc .vmem S256x14336 .bf16) (harg2 : arg2.IsWhole) (arg3 : Memref sig .tc .vmem S1792x4096 .fp8e4m3) (harg3 : arg3.IsWhole) (arg4 : Memref sig .tc .smem S32x112 .f32) (harg4 : arg4.IsWhole) (arg5 : Memref sig .tc .vmem S128x4096 .bf16) (harg5 : arg5.IsWhole) (arg6 : Memref sig .tc .vmem S128x1792 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S256x4096 .bf16) (harg9 : arg9.IsWhole) (arg10 : Memref sig .tc .vmem S128x4096 .f32) (harg10 : arg10.IsWhole) (arg11 : Memref sig .tc .vmem S128x1792 .f32) (harg11 : arg11.IsWhole) (arg12 : Memref sig .tc .vmem S2x256 .f32) (harg12 : arg12.IsWhole) (arg13 : Memref sig .tc .vmem S256x1792 .fp8e5m2) (harg13 : arg13.IsWhole) (arg14 : Memref sig .tc .vmem S1x256 .f32) (harg14 : arg14.IsWhole) (arg15 : Memref sig .tc .vmem S256x4096 .f32) (harg15 : arg15.IsWhole) (arg16 : Memref sig .tc .vmem S128x256 .f32) (harg16 : arg16.IsWhole) (arg17 : Memref sig .tc .vmem S128x512 .bf16) (harg17 : arg17.IsWhole) (arg18 : Memref sig .tc .vmem S128x256 .f32) (harg18 : arg18.IsWhole) (arg19 : Memref sig .tc .vmem S256x8 .f32) (harg19 : arg19.IsWhole) (arg20 : Memref sig .tc .vmem S256x128 .bf16) (harg20 : arg20.IsWhole) (arg21 : Memref sig .tc .vmem S256x128 .f32) (harg21 : arg21.IsWhole) (hc0 : ¬cond0_0 i) (hc1 : cond0_1 i)
    (x0 : Vec F S256x4096 .bf16) (x1 : Vec F S256x14336 .bf16) (x2 : Vec F S1792x4096 .fp8e4m3) (x3 : Vec F S32x112 .f32) (x4 : Vec F S128x4096 .bf16) (x5 : Vec F S128x1792 .bf16) (x6 : Vec F S2x256 .i32) (x7 : Vec F S2x256 .f32) (xs0 : Vec F S256x4096 .f32) (xs1 : Vec F S128x256 .f32) (xs2 : Vec F S128x512 .bf16) (xs3 : Vec F S128x256 .f32) (xs4 : Vec F S256x8 .f32) (xs5 : Vec F S256x128 .bf16) (xs6 : Vec F S256x128 .f32) :
    Σ' (L8 : List (View.Piece (Elt F) S256x4096 .bf16)), Σ' (L9 : List (View.Piece (Elt F) S128x4096 .f32)), Σ' (L10 : List (View.Piece (Elt F) S128x1792 .f32)), Σ' (L11 : List (View.Piece (Elt F) S2x256 .f32)), Σ' (L12 : List (View.Piece (Elt F) S256x1792 .fp8e5m2)), Σ' (LS0 : List (View.Piece (Elt F) S256x4096 .f32)), Σ' (LS1 : List (View.Piece (Elt F) S128x256 .f32)), Σ' (LS2 : List (View.Piece (Elt F) S128x512 .bf16)), Σ' (LS3 : List (View.Piece (Elt F) S128x256 .f32)), Σ' (LS4 : List (View.Piece (Elt F) S256x8 .f32)), Σ' (LS5 : List (View.Piece (Elt F) S256x128 .bf16)), { LS6 : List (View.Piece (Elt F) S256x128 .f32) //
      ∀ (xi13 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi13 ∗ owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5 ∗ owns (c : Thread nD τ) arg21 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0) ∗ owns (c : Thread nD τ) arg16 fullShare xs1 ∗ owns (c : Thread nD τ) arg17 fullShare xs2 ∗ (∃ f, arg18.view.loc (c : Thread nD τ) ↦[arg18.view.set]{fullShare} arg18.view.writes (Elt F) f LS3) ∗ owns (c : Thread nD τ) arg19 fullShare xs4 ∗ owns (c : Thread nD τ) arg20 fullShare xs5 ∗ owns (c : Thread nD τ) arg21 fullShare xs6) -∗ K ⟨⟩))
          ⊢ wp frame (wpE (defs₀ (F := F)) Variants.none c none) E (cc0_mixlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, [], [], ?_, [], [], [], fun xi13 E K => ?run⟩
  case run =>
    simp only [cc0_mixlora_bwd_eq_skeleton]; unfold cc0_mixlora_bwd_skel
    simp only [k0_part155_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part156_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf13; obtain rfl := harg15.eq_unread hfs0; obtain rfl := harg16.eq_unread hfs1; obtain rfl := harg17.eq_unread hfs2; obtain rfl := harg18.eq_unread hfs3; obtain rfl := harg19.eq_unread hfs4; obtain rfl := harg20.eq_unread hfs5; obtain rfl := harg21.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg14.read_unread _
      iexact H13
    isplitl [HS0]; · iexists _; iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    isplitl [HS4]
    · iexists _; isplitr; · ipureintro; exact harg19.read_unread _
      iexact HS4
    isplitl [HS5]
    · iexists _; isplitr; · ipureintro; exact harg20.read_unread _
      iexact HS5
    iexists _; isplitr; · ipureintro; exact harg21.read_unread _
    iexact HS6

end Cert.KernelIdeal.Hand

end
-- ==== Proof.Run.Frame.lean ====
/- The idealised kernel's run with every output named: what each point leaves in the carried scratch (`scAt`) and in
   each output's staging buffer, the body obligation, and the launch (`run_main_quiescent`). The row of scales is stored
   at the first point alone and written back at the last, so its buffer is followed through the points between. -/
module

public import proofs.«01_k».proof.Proof.Run.RunA
public import proofs.«01_k».proof.Proof.Run.RunB
public import proofs.«01_k».proof.Proof.Run.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the seven scratch buffers. -/
structure Sc (F : FTy → Type) where
  acc : Vec F S256x4096 .f32
  ht : Vec F S128x256 .f32
  hm : Vec F S128x512 .bf16
  ut : Vec F S128x256 .f32
  gcol : Vec F S256x8 .f32
  inv : Vec F S256x128 .bf16
  scol : Vec F S256x128 .f32

section Points
variable (c : Dev nD) (t : Fin cfg0.N)

/-- The run of the body at the first point. -/
abbrev rA (h0 : cond0_0 (grid0.coords t)) (h1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h0 h1
    (iblk m c 0 t) (iblk m c 1 t) (iblk m c 2 t) (iblk m c 3 t) (iblk m c 4 t) (iblk m c 5 t) (iblk m c 6 t) (iblk m c 7 t)

/-- The run of the body at a middle point, over the scratch `s`. -/
abbrev rB (h0 : ¬cond0_0 (grid0.coords t)) (h1 : ¬cond0_1 (grid0.coords t)) (s : Sc F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h0 h1
    (iblk m c 0 t) (iblk m c 1 t) (iblk m c 2 t) (iblk m c 3 t) (iblk m c 4 t) (iblk m c 5 t) (iblk m c 6 t) (iblk m c 7 t) s.acc s.ht s.hm s.ut s.gcol s.inv s.scol

/-- The run of the body at the last point, over the scratch `s`. -/
abbrev rC (h0 : ¬cond0_0 (grid0.coords t)) (h1 : cond0_1 (grid0.coords t)) (s : Sc F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h0 h1
    (iblk m c 0 t) (iblk m c 1 t) (iblk m c 2 t) (iblk m c 3 t) (iblk m c 4 t) (iblk m c 5 t) (iblk m c 6 t) (iblk m c 7 t) s.acc s.ht s.hm s.ut s.gcol s.inv s.scol

variable (a0 : cond0_0 (grid0.coords t)) (b0 : ¬cond0_0 (grid0.coords t)) (a1 : cond0_1 (grid0.coords t)) (b1 : ¬cond0_1 (grid0.coords t)) (s : Sc F)

theorem cover0_A_10 (a0 : cond0_0 (grid0.coords t)) (b1 : ¬cond0_1 (grid0.coords t)) (y : S128x1792.Idx) : ∃ pc ∈ (rA m c t a0 b1).2.2.1, y ∈ pc.1.set :=
  View.cover_of_tiledL (rA m c t a0 b1).2.2.1 S128x1792.size (by sl_kernel_rfl) y
theorem cover0_A_12 (a0 : cond0_0 (grid0.coords t)) (b1 : ¬cond0_1 (grid0.coords t)) (y : S256x1792.Idx) : ∃ pc ∈ (rA m c t a0 b1).2.2.2.2.1, y ∈ pc.1.set :=
  View.cover_of_tiledL (rA m c t a0 b1).2.2.2.2.1 S256x1792.size (by sl_kernel_rfl) y
theorem cover0_A_13 (a0 : cond0_0 (grid0.coords t)) (b1 : ¬cond0_1 (grid0.coords t)) (y : S1x256.Idx) : ∃ pc ∈ (rA m c t a0 b1).2.2.2.2.2.1, y ∈ pc.1.set :=
  View.cover_of_tiledL (rA m c t a0 b1).2.2.2.2.2.1 S1x256.size (by sl_kernel_rfl) y
theorem scover0_A_0 (a0 : cond0_0 (grid0.coords t)) (b1 : ¬cond0_1 (grid0.coords t)) (y : S256x4096.Idx) : ∃ pc ∈ (rA m c t a0 b1).2.2.2.2.2.2.1, y ∈ pc.1.set :=
  View.cover_of_wholeMem (rA m c t a0 b1).2.2.2.2.2.2.1 (by sl_whole_mem) y
theorem scover0_A_1 (a0 : cond0_0 (grid0.coords t)) (b1 : ¬cond0_1 (grid0.coords t)) (y : S128x256.Idx) : ∃ pc ∈ (rA m c t a0 b1).2.2.2.2.2.2.2.1, y ∈ pc.1.set :=
  View.cover_of_tiledL (rA m c t a0 b1).2.2.2.2.2.2.2.1 S128x256.size (by sl_kernel_rfl) y
theorem scover0_A_2 (a0 : cond0_0 (grid0.coords t)) (b1 : ¬cond0_1 (grid0.coords t)) (y : S128x512.Idx) : ∃ pc ∈ (rA m c t a0 b1).2.2.2.2.2.2.2.2.1, y ∈ pc.1.set :=
  View.cover_of_tiledL (rA m c t a0 b1).2.2.2.2.2.2.2.2.1 S128x256.size (by sl_kernel_rfl) y
theorem scover0_A_3 (a0 : cond0_0 (grid0.coords t)) (b1 : ¬cond0_1 (grid0.coords t)) (y : S128x256.Idx) : ∃ pc ∈ (rA m c t a0 b1).2.2.2.2.2.2.2.2.2.1, y ∈ pc.1.set :=
  View.cover_of_tiledL (rA m c t a0 b1).2.2.2.2.2.2.2.2.2.1 S128x256.size (by sl_kernel_rfl) y
theorem scover0_A_4 (a0 : cond0_0 (grid0.coords t)) (b1 : ¬cond0_1 (grid0.coords t)) (y : S256x8.Idx) : ∃ pc ∈ (rA m c t a0 b1).2.2.2.2.2.2.2.2.2.2.1, y ∈ pc.1.set :=
  View.cover_of_tiledL (rA m c t a0 b1).2.2.2.2.2.2.2.2.2.2.1 S256x8.size (by sl_kernel_rfl) y
theorem scover0_A_5 (a0 : cond0_0 (grid0.coords t)) (b1 : ¬cond0_1 (grid0.coords t)) (y : S256x128.Idx) : ∃ pc ∈ (rA m c t a0 b1).2.2.2.2.2.2.2.2.2.2.2.1, y ∈ pc.1.set :=
  View.cover_of_tiledL (rA m c t a0 b1).2.2.2.2.2.2.2.2.2.2.2.1 S256x128.size (by sl_kernel_rfl) y
theorem scover0_A_6 (a0 : cond0_0 (grid0.coords t)) (b1 : ¬cond0_1 (grid0.coords t)) (y : S256x128.Idx) : ∃ pc ∈ (rA m c t a0 b1).2.2.2.2.2.2.2.2.2.2.2.2.1, y ∈ pc.1.set :=
  View.cover_of_tiledL (rA m c t a0 b1).2.2.2.2.2.2.2.2.2.2.2.2.1 S256x128.size (by sl_kernel_rfl) y
theorem cover0_B_10 (b0 : ¬cond0_0 (grid0.coords t)) (b1 : ¬cond0_1 (grid0.coords t)) (s : Sc F) (y : S128x1792.Idx) : ∃ pc ∈ (rB m c t b0 b1 s).2.2.1, y ∈ pc.1.set :=
  View.cover_of_tiledL (rB m c t b0 b1 s).2.2.1 S128x1792.size (by sl_kernel_rfl) y
theorem cover0_B_12 (b0 : ¬cond0_0 (grid0.coords t)) (b1 : ¬cond0_1 (grid0.coords t)) (s : Sc F) (y : S256x1792.Idx) : ∃ pc ∈ (rB m c t b0 b1 s).2.2.2.2.1, y ∈ pc.1.set :=
  View.cover_of_tiledL (rB m c t b0 b1 s).2.2.2.2.1 S256x1792.size (by sl_kernel_rfl) y
theorem scover0_B_0 (b0 : ¬cond0_0 (grid0.coords t)) (b1 : ¬cond0_1 (grid0.coords t)) (s : Sc F) (y : S256x4096.Idx) : ∃ pc ∈ (rB m c t b0 b1 s).2.2.2.2.2.2.1, y ∈ pc.1.set :=
  View.cover_of_tiledL (rB m c t b0 b1 s).2.2.2.2.2.2.1 S256x512.size (by sl_kernel_rfl) y
theorem scover0_B_3 (b0 : ¬cond0_0 (grid0.coords t)) (b1 : ¬cond0_1 (grid0.coords t)) (s : Sc F) (y : S128x256.Idx) : ∃ pc ∈ (rB m c t b0 b1 s).2.2.2.2.2.2.2.2.2.1, y ∈ pc.1.set :=
  View.cover_of_tiledL (rB m c t b0 b1 s).2.2.2.2.2.2.2.2.2.1 S128x256.size (by sl_kernel_rfl) y
theorem cover0_C_8 (b0 : ¬cond0_0 (grid0.coords t)) (a1 : cond0_1 (grid0.coords t)) (s : Sc F) (y : S256x4096.Idx) : ∃ pc ∈ (rC m c t b0 a1 s).1, y ∈ pc.1.set :=
  View.cover_of_tiledL (rC m c t b0 a1 s).1 S256x512.size (by sl_kernel_rfl) y
theorem cover0_C_9 (b0 : ¬cond0_0 (grid0.coords t)) (a1 : cond0_1 (grid0.coords t)) (s : Sc F) (y : S128x4096.Idx) : ∃ pc ∈ (rC m c t b0 a1 s).2.1, y ∈ pc.1.set :=
  View.cover_of_tiledL (rC m c t b0 a1 s).2.1 S128x4096.size (by sl_kernel_rfl) y
theorem cover0_C_10 (b0 : ¬cond0_0 (grid0.coords t)) (a1 : cond0_1 (grid0.coords t)) (s : Sc F) (y : S128x1792.Idx) : ∃ pc ∈ (rC m c t b0 a1 s).2.2.1, y ∈ pc.1.set :=
  View.cover_of_tiledL (rC m c t b0 a1 s).2.2.1 S128x1792.size (by sl_kernel_rfl) y
theorem cover0_C_11 (b0 : ¬cond0_0 (grid0.coords t)) (a1 : cond0_1 (grid0.coords t)) (s : Sc F) (y : S2x256.Idx) : ∃ pc ∈ (rC m c t b0 a1 s).2.2.2.1, y ∈ pc.1.set :=
  View.cover_of_tiledL (rC m c t b0 a1 s).2.2.2.1 S1x256.size (by sl_kernel_rfl) y
theorem cover0_C_12 (b0 : ¬cond0_0 (grid0.coords t)) (a1 : cond0_1 (grid0.coords t)) (s : Sc F) (y : S256x1792.Idx) : ∃ pc ∈ (rC m c t b0 a1 s).2.2.2.2.1, y ∈ pc.1.set :=
  View.cover_of_tiledL (rC m c t b0 a1 s).2.2.2.2.1 S256x1792.size (by sl_kernel_rfl) y
theorem scover0_C_0 (b0 : ¬cond0_0 (grid0.coords t)) (a1 : cond0_1 (grid0.coords t)) (s : Sc F) (y : S256x4096.Idx) : ∃ pc ∈ (rC m c t b0 a1 s).2.2.2.2.2.1, y ∈ pc.1.set :=
  View.cover_of_tiledL (rC m c t b0 a1 s).2.2.2.2.2.1 S256x512.size (by sl_kernel_rfl) y
theorem scover0_C_3 (b0 : ¬cond0_0 (grid0.coords t)) (a1 : cond0_1 (grid0.coords t)) (s : Sc F) (y : S128x256.Idx) : ∃ pc ∈ (rC m c t b0 a1 s).2.2.2.2.2.2.2.2.1, y ∈ pc.1.set :=
  View.cover_of_tiledL (rC m c t b0 a1 s).2.2.2.2.2.2.2.2.1 S128x256.size (by sl_kernel_rfl) y

/-- The scratch the first point leaves. -/
def scA (a0 : cond0_0 (grid0.coords t)) (b1 : ¬cond0_1 (grid0.coords t)) : Sc F where
  acc := VS0_0.read (Elt F) (VS0_0.writes (Elt F) VS0_0.junk (rA m c t a0 b1).2.2.2.2.2.2.1)
  ht := VS0_1.read (Elt F) (VS0_1.writes (Elt F) VS0_1.junk (rA m c t a0 b1).2.2.2.2.2.2.2.1)
  hm := VS0_2.read (Elt F) (VS0_2.writes (Elt F) VS0_2.junk (rA m c t a0 b1).2.2.2.2.2.2.2.2.1)
  ut := VS0_3.read (Elt F) (VS0_3.writes (Elt F) VS0_3.junk (rA m c t a0 b1).2.2.2.2.2.2.2.2.2.1)
  gcol := VS0_4.read (Elt F) (VS0_4.writes (Elt F) VS0_4.junk (rA m c t a0 b1).2.2.2.2.2.2.2.2.2.2.1)
  inv := VS0_5.read (Elt F) (VS0_5.writes (Elt F) VS0_5.junk (rA m c t a0 b1).2.2.2.2.2.2.2.2.2.2.2.1)
  scol := VS0_6.read (Elt F) (VS0_6.writes (Elt F) VS0_6.junk (rA m c t a0 b1).2.2.2.2.2.2.2.2.2.2.2.2.1)
/-- The scratch a point of case B leaves: the accumulator and the projected gradient move, the rest stays. -/
def scB (b0 : ¬cond0_0 (grid0.coords t)) (b1 : ¬cond0_1 (grid0.coords t)) (s : Sc F) : Sc F :=
  { s with
    acc := VS0_0.read (Elt F) (VS0_0.writes (Elt F) VS0_0.junk (rB m c t b0 b1 s).2.2.2.2.2.2.1)
    ut := VS0_3.read (Elt F) (VS0_3.writes (Elt F) VS0_3.junk (rB m c t b0 b1 s).2.2.2.2.2.2.2.2.2.1) }
/-- The scratch a point of case C leaves: the accumulator and the projected gradient move, the rest stays. -/
def scC (b0 : ¬cond0_0 (grid0.coords t)) (a1 : cond0_1 (grid0.coords t)) (s : Sc F) : Sc F :=
  { s with
    acc := VS0_0.read (Elt F) (VS0_0.writes (Elt F) VS0_0.junk (rC m c t b0 a1 s).2.2.2.2.2.1)
    ut := VS0_3.read (Elt F) (VS0_3.writes (Elt F) VS0_3.junk (rC m c t b0 a1 s).2.2.2.2.2.2.2.2.1) }

end Points

theorem tc0 (t : Fin cfg0.N) (h : t.val = 0) : cond0_0 (grid0.coords t) := (hcond0_0 t).mpr (by omega)
theorem tn0 (t : Fin cfg0.N) (h : t.val ≠ 0) : ¬cond0_0 (grid0.coords t) := fun e => by
  have := (hcond0_0 t).mp e; have hN : t.val < 8 := lt_of_lt_of_eq t.isLt N_0; omega
theorem tc7 (t : Fin cfg0.N) (h : t.val = 7) : cond0_1 (grid0.coords t) := (hcond0_1 t).mpr (by omega)
theorem tn7 (t : Fin cfg0.N) (h : t.val ≠ 7) : ¬cond0_1 (grid0.coords t) := fun e => by
  have := (hcond0_1 t).mp e; have hN : t.val < 8 := lt_of_lt_of_eq t.isLt N_0; omega

/-- What the scratch holds after point `n`. -/
def scAt (c : Dev nD) : (n : ℕ) → n < cfg0.N → Sc F
  | 0, hn => scA m c ⟨0, hn⟩ (tc0 _ rfl) (tn7 _ (show (0 : ℕ) ≠ 7 by decide))
  | n + 1, hn =>
    if h : n + 1 = 7 then scC m c ⟨n + 1, hn⟩ (tn0 _ (Nat.succ_ne_zero n)) (tc7 _ h) (scAt c n (Nat.lt_of_succ_lt hn))
    else scB m c ⟨n + 1, hn⟩ (tn0 _ (Nat.succ_ne_zero n)) (tn7 _ h) (scAt c n (Nat.lt_of_succ_lt hn))

theorem pred_lt (t : Fin cfg0.N) : t.val - 1 < cfg0.N := Nat.lt_of_le_of_lt (Nat.sub_le _ _) t.isLt

theorem scAt_A (c : Dev nD) (t : Fin cfg0.N) (h0 : t.val = 0) (a0 b1) : scAt m c t.val t.isLt = scA m c t a0 b1 := by
  obtain ⟨n, hn⟩ := t
  cases n with
  | zero => rfl
  | succ n => exact absurd h0 (Nat.succ_ne_zero n)

theorem scAt_B (c : Dev nD) (t : Fin cfg0.N) (h0 : t.val ≠ 0) (h1 : t.val ≠ 7) (b0 b1) :
    scAt m c t.val t.isLt = scB m c t b0 b1 (scAt m c (t.val - 1) (pred_lt t)) := by
  obtain ⟨n, hn⟩ := t
  cases n with
  | zero => exact absurd rfl h0
  | succ n => exact dif_neg h1

theorem scAt_C (c : Dev nD) (t : Fin cfg0.N) (h0 : t.val ≠ 0) (h1 : t.val = 7) (b0 a1) :
    scAt m c t.val t.isLt = scC m c t b0 a1 (scAt m c (t.val - 1) (pred_lt t)) := by
  obtain ⟨n, hn⟩ := t
  cases n with
  | zero => exact absurd rfl h0
  | succ n => exact dif_pos h1

/-- Output 8 at point `t`: stored at the last point alone. -/
def out8 (c : Dev nD) (t : Fin cfg0.N) : Vec F S256x4096 .bf16 :=
  if h1 : t.val = 7 then VO0_8.read (Elt F) (VO0_8.writes (Elt F) VO0_8.junk (rC m c t (tn0 t (by omega)) (tc7 t h1) (scAt m c (t.val - 1) (pred_lt t))).1)
  else VO0_8.read (Elt F) VO0_8.junk
/-- Output 9 at point `t`: stored at the last point alone. -/
def out9 (c : Dev nD) (t : Fin cfg0.N) : Vec F S128x4096 .f32 :=
  if h1 : t.val = 7 then VO0_9.read (Elt F) (VO0_9.writes (Elt F) VO0_9.junk (rC m c t (tn0 t (by omega)) (tc7 t h1) (scAt m c (t.val - 1) (pred_lt t))).2.1)
  else VO0_9.read (Elt F) VO0_9.junk
/-- Output 11 at point `t`: stored at the last point alone. -/
def out11 (c : Dev nD) (t : Fin cfg0.N) : Vec F S2x256 .f32 :=
  if h1 : t.val = 7 then VO0_11.read (Elt F) (VO0_11.writes (Elt F) VO0_11.junk (rC m c t (tn0 t (by omega)) (tc7 t h1) (scAt m c (t.val - 1) (pred_lt t))).2.2.2.1)
  else VO0_11.read (Elt F) VO0_11.junk
/-- Output 10 at point `t`: stored at every point. -/
def out10 (c : Dev nD) (t : Fin cfg0.N) : Vec F S128x1792 .f32 :=
  if h0 : t.val = 0 then VO0_10.read (Elt F) (VO0_10.writes (Elt F) VO0_10.junk (rA m c t (tc0 t h0) (tn7 t (by omega))).2.2.1)
  else if h1 : t.val = 7 then VO0_10.read (Elt F) (VO0_10.writes (Elt F) VO0_10.junk (rC m c t (tn0 t h0) (tc7 t h1) (scAt m c (t.val - 1) (pred_lt t))).2.2.1)
  else VO0_10.read (Elt F) (VO0_10.writes (Elt F) VO0_10.junk (rB m c t (tn0 t h0) (tn7 t h1) (scAt m c (t.val - 1) (pred_lt t))).2.2.1)
/-- Output 12 at point `t`: stored at every point. -/
def out12 (c : Dev nD) (t : Fin cfg0.N) : Vec F S256x1792 .fp8e5m2 :=
  if h0 : t.val = 0 then VO0_12.read (Elt F) (VO0_12.writes (Elt F) VO0_12.junk (rA m c t (tc0 t h0) (tn7 t (by omega))).2.2.2.2.1)
  else if h1 : t.val = 7 then VO0_12.read (Elt F) (VO0_12.writes (Elt F) VO0_12.junk (rC m c t (tn0 t h0) (tc7 t h1) (scAt m c (t.val - 1) (pred_lt t))).2.2.2.2.1)
  else VO0_12.read (Elt F) (VO0_12.writes (Elt F) VO0_12.junk (rB m c t (tn0 t h0) (tn7 t h1) (scAt m c (t.val - 1) (pred_lt t))).2.2.2.2.1)
/-- The row of scales, stored at the first point. -/
def out13 (c : Dev nD) : Vec F S1x256 .f32 :=
  VO0_13.read (Elt F) (VO0_13.writes (Elt F) VO0_13.junk (rA m c ⟨0, by decide⟩ (tc0 _ rfl) (tn7 _ (show (0 : ℕ) ≠ 7 by decide))).2.2.2.2.2.1)

/-- The scratch buffers held at contents `s`. -/
def scOwns (c : Dev nD) (s : Sc F) : sProp 𝕄 :=
  iprop(owns (c : Thread nD τ) scM0_0 fullShare s.acc ∗ owns (c : Thread nD τ) scM0_1 fullShare s.ht ∗ owns (c : Thread nD τ) scM0_2 fullShare s.hm ∗ owns (c : Thread nD τ) scM0_3 fullShare s.ut ∗ owns (c : Thread nD τ) scM0_4 fullShare s.gcol ∗ owns (c : Thread nD τ) scM0_5 fullShare s.inv ∗ owns (c : Thread nD τ) scM0_6 fullShare s.scol)

/-- The region invariant before position `n`: before the first point every scratch at anything, afterwards at what the
    point before left; and the generator register at some state. -/
def PhiS (c : Dev nD) : (n : ℕ) → n ≤ cfg0.N → sProp 𝕄
  | 0, _ => Pipeline.ΦA spec0 c
  | n + 1, hn => iprop(scOwns c (scAt m c n hn) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(scOwns c (scAt m c (n - 1) (by omega)) ∗ (∃ r, prngReg c r)) := by
  cases n with
  | zero => exact absurd rfl hz
  | succ n => rfl

/-- The pipeline's proof data: each input's buffer stays at its block, each output's is at `outW`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => out10 m c t
    | ⟨11, _⟩ => out11 m c t
    | ⟨12, _⟩ => out12 m c t
    | ⟨13, _⟩ => out13 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats, Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem after0_13 (c : Dev nD) (t : Fin cfg0.N) : (dats m 0 c).after 13 t = out13 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scales' buffer after the first point: what the first point stored, through the idle points between. -/
theorem before0_13 (c : Dev nD) (t : Fin cfg0.N) (ht : t.val ≠ 0) (d) : (dats m 0 c).before 13 t d = out13 m c := by
  obtain ⟨n, hn⟩ := t
  induction n with
  | zero => exact absurd rfl ht
  | succ n ih =>
    have hN : n + 1 < 8 := lt_of_lt_of_eq hn N_0
    have hfe : (cfg0.win 13).fetch ⟨n + 1, hn⟩ = false := by
      have : ∀ t : Fin cfg0.N, (cfg0.win 13).fetch t = false := by decide +kernel
      exact this _
    have hfl : (cfg0.win 13).flush ⟨n, Nat.lt_of_succ_lt hn⟩ = false := by
      have : ∀ t : Fin cfg0.N, ¬cond0_1 (grid0.coords t) → (cfg0.win 13).flush t = false := by decide +kernel
      exact this _ (tn7 _ (by simp only; omega))
    rw [Dat.before_of_pos (dats m 0 c) 13 _ ht hfe d]
    simp only [Nat.add_sub_cancel]
    rw [hfl]
    rcases Nat.eq_zero_or_pos n with rfl | hp
    · have hl := liveAt0_13_A ⟨0, Nat.lt_of_succ_lt hn⟩ (tc0 _ rfl) (tn7 _ (show (0 : ℕ) ≠ 7 by decide))
      simp only [Bool.false_eq_true, if_false, Dat.left]
      rw [show idle0 13 (grid0.coords ⟨0, Nat.lt_of_succ_lt hn⟩) = false from hl]
      simp only [Dat.kept, after0_13]
      try rfl
    · have hi := idleAt0_13_B ⟨n, Nat.lt_of_succ_lt hn⟩ (tn0 _ (by simp only; omega)) (tn7 _ (by simp only; omega))
      simp only [Bool.false_eq_true, if_false, Dat.left]
      rw [show idle0 13 (grid0.coords ⟨n, Nat.lt_of_succ_lt hn⟩) = true from hi]
      exact ih (Nat.lt_of_succ_lt hn) (by simp only; omega)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves_live (c : Dev nD) (t : Fin cfg0.N) (w : Fin cfg0.W) (h : cfg0.idle w (grid0.coords t) = false) :
    (dats m 0 c).leavesExact w t = owns c ((cfg0.win w).stage (cfg0.slots t w)) fullShare ((dats m 0 c).after w t) := by
  unfold Dat.leavesExact; rw [show cfg0.grid.coords t = grid0.coords t from rfl, h]

set_option maxHeartbeats 24000000 in
/-- The body at the first point. -/
theorem sound_A (c : Dev nD) (t : Fin cfg0.N) (a0 : cond0_0 (grid0.coords t)) (b1 : ¬cond0_1 (grid0.coords t)) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(scOwns c (scAt m c t.val t.isLt) ∗ (∃ r, prngReg c r)) from rfl]
  rw [leaves_live m c t 0 (liveAt0_0 t), after0_0, leaves_live m c t 1 (liveAt0_1 t), after0_1, leaves_live m c t 2 (liveAt0_2 t), after0_2, leaves_live m c t 3 (liveAt0_3 t), after0_3, leaves_live m c t 4 (liveAt0_4 t), after0_4, leaves_live m c t 5 (liveAt0_5 t), after0_5, leaves_live m c t 6 (liveAt0_6 t), after0_6, leaves_live m c t 7 (liveAt0_7 t), after0_7]
  rw [Dat.leavesExact_idle (dats m 0 c) 8 t (idleAt0_8_A t a0 b1) (noFlush0_8_A t a0 b1)]
  rw [Dat.leavesExact_idle (dats m 0 c) 9 t (idleAt0_9_A t a0 b1) (noFlush0_9_A t a0 b1)]
  rw [leaves_live m c t 10 (liveAt0_10 t), after0_10]
  rw [Dat.leavesExact_idle (dats m 0 c) 11 t (idleAt0_11_A t a0 b1) (noFlush0_11_A t a0 b1)]
  rw [leaves_live m c t 12 (liveAt0_12 t), after0_12]
  rw [leaves_live m c t 13 (liveAt0_13_A t a0 b1), after0_13]
  rw [PhiS_castSucc m c t, PhiS_zero m c _ _ h0, PhiA0_eq, scAt_A m c t h0 a0 b1]
  rw [show out10 m c t = _ from dif_pos h0, show out12 m c t = _ from dif_pos h0]
  rw [show out13 m c = VO0_13.read (Elt F) (VO0_13.writes (Elt F) VO0_13.junk (rA m c t a0 b1).2.2.2.2.2.1) from by
    obtain ⟨n, hn⟩ := t; obtain rfl : n = 0 := h0; rfl]
  unfold scOwns scA; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rA m c t a0 b1).2.2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, H11, ⟨%e12, H12⟩, ⟨%e13, H13⟩, ⟨%es0, HS0⟩, ⟨%es1, HS1⟩, ⟨%es2, HS2⟩, ⟨%es3, HS3⟩, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (scover0_A_0 m c t a0 b1)
      isplitl [HS1]
      · unfold owns; iexists _; isplitr
        swap; · iexact HS1
        ipureintro; exact View.read_writes_of_cover _ _ _ _ _ (scover0_A_1 m c t a0 b1)
      isplitl [HS2]
      · unfold owns; iexists _; isplitr
        swap; · iexact HS2
        ipureintro; exact View.read_writes_of_cover _ _ _ _ _ (scover0_A_2 m c t a0 b1)
      isplitl [HS3]
      · unfold owns; iexists _; isplitr
        swap; · iexact HS3
        ipureintro; exact View.read_writes_of_cover _ _ _ _ _ (scover0_A_3 m c t a0 b1)
      isplitl [HS4]
      · unfold owns; iexists _; isplitr
        swap; · iexact HS4
        ipureintro; exact View.read_writes_of_cover _ _ _ _ _ (scover0_A_4 m c t a0 b1)
      isplitl [HS5]
      · unfold owns; iexists _; isplitr
        swap; · iexact HS5
        ipureintro; exact View.read_writes_of_cover _ _ _ _ _ (scover0_A_5 m c t a0 b1)
      unfold owns; iexists _; isplitr
      swap; · iexact HS6
      ipureintro; exact View.read_writes_of_cover _ _ _ _ _ (scover0_A_6 m c t a0 b1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ (cover0_A_10 m c t a0 b1)
  isplitl [H11]; · iexists _; iexact H11
  isplitl [H12]
  · unfold owns; iexists _; isplitr
    swap; · iexact H12
    ipureintro; exact View.read_writes_of_cover _ _ _ _ _ (cover0_A_12 m c t a0 b1)
  unfold owns; iexists _; isplitr
  swap; · iexact H13
  ipureintro; exact View.read_writes_of_cover _ _ _ _ _ (cover0_A_13 m c t a0 b1)

set_option maxHeartbeats 24000000 in
/-- The body at a middle point. -/
theorem sound_B (c : Dev nD) (t : Fin cfg0.N) (b0 : ¬cond0_0 (grid0.coords t)) (b1 : ¬cond0_1 (grid0.coords t)) (h0 : t.val ≠ 0) (h1 : t.val ≠ 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(scOwns c (scAt m c t.val t.isLt) ∗ (∃ r, prngReg c r)) from rfl]
  rw [leaves_live m c t 0 (liveAt0_0 t), after0_0, leaves_live m c t 1 (liveAt0_1 t), after0_1, leaves_live m c t 2 (liveAt0_2 t), after0_2, leaves_live m c t 3 (liveAt0_3 t), after0_3, leaves_live m c t 4 (liveAt0_4 t), after0_4, leaves_live m c t 5 (liveAt0_5 t), after0_5, leaves_live m c t 6 (liveAt0_6 t), after0_6, leaves_live m c t 7 (liveAt0_7 t), after0_7]
  rw [Dat.leavesExact_idle (dats m 0 c) 8 t (idleAt0_8_B t b0 b1) (noFlush0_8_B t b0 b1)]
  rw [Dat.leavesExact_idle (dats m 0 c) 9 t (idleAt0_9_B t b0 b1) (noFlush0_9_B t b0 b1)]
  rw [leaves_live m c t 10 (liveAt0_10 t), after0_10]
  rw [Dat.leavesExact_idle (dats m 0 c) 11 t (idleAt0_11_B t b0 b1) (noFlush0_11_B t b0 b1)]
  rw [leaves_live m c t 12 (liveAt0_12 t), after0_12]
  rw [Dat.leavesExact_idle (dats m 0 c) 13 t (idleAt0_13_B t b0 b1) (noFlush0_13_B t b0 b1)]
  rw [PhiS_castSucc m c t, PhiS_pos m c _ _ h0, scAt_B m c t h0 h1 b0 b1]
  rw [show out10 m c t = _ from (dif_neg h0).trans (dif_neg h1)]
  rw [show out12 m c t = _ from (dif_neg h0).trans (dif_neg h1)]
  generalize scAt m c (t.val - 1) (pred_lt t) = s
  unfold scOwns scB; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rB m c t b0 b1 s).2.2.2.2.2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, H11, ⟨%e12, H12⟩, H13, ⟨%es0, HS0⟩, HS1, HS2, ⟨%es3, HS3⟩, HS4, HS5, HS6⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (scover0_B_0 m c t b0 b1 s)
      isplitl [HS1]; · iexact HS1
      isplitl [HS2]; · iexact HS2
      isplitl [HS3]
      · unfold owns; iexists _; isplitr
        swap; · iexact HS3
        ipureintro; exact View.read_writes_of_cover _ _ _ _ _ (scover0_B_3 m c t b0 b1 s)
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ (cover0_B_10 m c t b0 b1 s)
  isplitl [H11]; · iexists _; iexact H11
  isplitl [H12]
  · unfold owns; iexists _; isplitr
    swap; · iexact H12
    ipureintro; exact View.read_writes_of_cover _ _ _ _ _ (cover0_B_12 m c t b0 b1 s)
  iexists _; iexact H13

set_option maxHeartbeats 24000000 in
/-- The body at the last point. -/
theorem sound_C (c : Dev nD) (t : Fin cfg0.N) (b0 : ¬cond0_0 (grid0.coords t)) (a1 : cond0_1 (grid0.coords t)) (h0 : t.val ≠ 0) (h1 : t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(scOwns c (scAt m c t.val t.isLt) ∗ (∃ r, prngReg c r)) from rfl]
  rw [leaves_live m c t 0 (liveAt0_0 t), after0_0, leaves_live m c t 1 (liveAt0_1 t), after0_1, leaves_live m c t 2 (liveAt0_2 t), after0_2, leaves_live m c t 3 (liveAt0_3 t), after0_3, leaves_live m c t 4 (liveAt0_4 t), after0_4, leaves_live m c t 5 (liveAt0_5 t), after0_5, leaves_live m c t 6 (liveAt0_6 t), after0_6, leaves_live m c t 7 (liveAt0_7 t), after0_7]
  rw [leaves_live m c t 8 (liveAt0_8_C t b0 a1), after0_8]
  rw [leaves_live m c t 9 (liveAt0_9_C t b0 a1), after0_9]
  rw [leaves_live m c t 10 (liveAt0_10 t), after0_10]
  rw [leaves_live m c t 11 (liveAt0_11_C t b0 a1), after0_11]
  rw [leaves_live m c t 12 (liveAt0_12 t), after0_12]
  rw [show (dats m 0 c).leavesExact 13 t = owns (c : Thread nD τ) (ms0_13 t) fullShare (out13 m c) from by
    unfold Dat.leavesExact; rw [show cfg0.grid.coords t = grid0.coords t from rfl, idleAt0_13_C t b0 a1, flush0_13_C t b0 a1, after0_13]]
  simp only [before0_13 m c t h0]
  rw [PhiS_castSucc m c t, PhiS_pos m c _ _ h0, scAt_C m c t h0 h1 b0 a1]
  rw [show out8 m c t = _ from dif_pos h1]
  rw [show out9 m c t = _ from dif_pos h1]
  rw [show out11 m c t = _ from dif_pos h1]
  rw [show out10 m c t = _ from (dif_neg h0).trans (dif_pos h1)]
  rw [show out12 m c t = _ from (dif_neg h0).trans (dif_pos h1)]
  generalize scAt m c (t.val - 1) (pred_lt t) = s
  unfold scOwns scC; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rC m c t b0 a1 s).2.2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, ⟨%e8, H8⟩, ⟨%e9, H9⟩, ⟨%e10, H10⟩, ⟨%e11, H11⟩, ⟨%e12, H12⟩, H13, ⟨%es0, HS0⟩, HS1, HS2, ⟨%es3, HS3⟩, HS4, HS5, HS6⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (scover0_C_0 m c t b0 a1 s)
      isplitl [HS1]; · iexact HS1
      isplitl [HS2]; · iexact HS2
      isplitl [HS3]
      · unfold owns; iexists _; isplitr
        swap; · iexact HS3
        ipureintro; exact View.read_writes_of_cover _ _ _ _ _ (scover0_C_3 m c t b0 a1 s)
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_C_8 m c t b0 a1 s)
  isplitl [H9]
  · unfold owns; iexists _; isplitr
    swap; · iexact H9
    ipureintro; exact View.read_writes_of_cover _ _ _ _ _ (cover0_C_9 m c t b0 a1 s)
  isplitl [H10]
  · unfold owns; iexists _; isplitr
    swap; · iexact H10
    ipureintro; exact View.read_writes_of_cover _ _ _ _ _ (cover0_C_10 m c t b0 a1 s)
  isplitl [H11]
  · unfold owns; iexists _; isplitr
    swap; · iexact H11
    ipureintro; exact View.read_writes_of_cover _ _ _ _ _ (cover0_C_11 m c t b0 a1 s)
  isplitl [H12]
  · unfold owns; iexists _; isplitr
    swap; · iexact H12
    ipureintro; exact View.read_writes_of_cover _ _ _ _ _ (cover0_C_12 m c t b0 a1 s)
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t (tc0 t h0) (tn7 t (by omega)) h0
  · by_cases h1 : t.val = 7
    · exact sound_C m c t (tn0 t h0) (tc7 t h1) h0 h1
    · exact sound_B m c t (tn0 t h0) (tn7 t h1) h0 h1

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scOwns
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.RunKernel.Points.lean ====
/- What the three runs of the idealised kernel's body are stated over: the branch conditions in closed form
   over the grid points, where each window is idle, and the staging and scratch buffers. -/
module

public import proofs.«01_k».proof.Proof.Gen.Kernel.Skeleton
public import proofs.«01_k».proof.Proof.Gen.Kernel.Frame

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 10 is never idle (an output stored at every point, under no condition). -/
theorem liveAt0_10 : ∀ t : Fin cfg0.N, cfg0.idle 10 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel
/-- At the points of case A the printed configuration (`Cfg.idle`) calls output 13 live: the case stores into it. -/
theorem liveAt0_13_A : ∀ t : Fin cfg0.N, cond0_0 (grid0.coords t) → ¬cond0_1 (grid0.coords t) → cfg0.idle 13 (grid0.coords t) = false := by decide +kernel
/-- At the points of case B the printed configuration (`Cfg.idle`) calls output 13 idle: the case stores nothing into it. -/
theorem idleAt0_13_B : ∀ t : Fin cfg0.N, ¬cond0_0 (grid0.coords t) → ¬cond0_1 (grid0.coords t) → cfg0.idle 13 (grid0.coords t) = true := by decide +kernel
/-- At the points of case B the pipeline does not write output 13's block back. -/
theorem noFlush0_13_B : ∀ t : Fin cfg0.N, ¬cond0_0 (grid0.coords t) → ¬cond0_1 (grid0.coords t) → (cfg0.win 13).flush t = false := by decide +kernel
/-- At the points of case C the printed configuration calls output 13 idle. -/
theorem idleAt0_13_C : ∀ t : Fin cfg0.N, ¬cond0_0 (grid0.coords t) → cond0_1 (grid0.coords t) → cfg0.idle 13 (grid0.coords t) = true := by decide +kernel
/-- And the pipeline writes its block back there. -/
theorem flush0_13_C : ∀ t : Fin cfg0.N, ¬cond0_0 (grid0.coords t) → cond0_1 (grid0.coords t) → (cfg0.win 13).flush t = true := by decide +kernel

/-! ## The kernel body on any staging memrefs: a subtype the run finds -/

/-- One staging buffer of output window 8, through which its contents are stated (`View.read_writes_of_cover`: the
    choice does not matter). -/
abbrev VO0_8 : View sig .tc .vmem S256x4096 .bf16 := (Memref.whole cc0_stg8_0 : Memref sig .tc .vmem S256x4096 .bf16).view
/-- One staging buffer of output window 9, through which its contents are stated (`View.read_writes_of_cover`: the
    choice does not matter). -/
abbrev VO0_9 : View sig .tc .vmem S128x4096 .f32 := (Memref.whole cc0_stg9_0 : Memref sig .tc .vmem S128x4096 .f32).view
/-- One staging buffer of output window 10, through which its contents are stated (`View.read_writes_of_cover`: the
    choice does not matter). -/
abbrev VO0_10 : View sig .tc .vmem S128x1792 .f32 := (Memref.whole cc0_stg10_0 : Memref sig .tc .vmem S128x1792 .f32).view
/-- One staging buffer of output window 11, through which its contents are stated (`View.read_writes_of_cover`: the
    choice does not matter). -/
abbrev VO0_11 : View sig .tc .vmem S2x256 .f32 := (Memref.whole cc0_stg11_0 : Memref sig .tc .vmem S2x256 .f32).view
/-- One staging buffer of output window 12, through which its contents are stated (`View.read_writes_of_cover`: the
    choice does not matter). -/
abbrev VO0_12 : View sig .tc .vmem S256x1792 .fp8e5m2 := (Memref.whole cc0_stg12_0 : Memref sig .tc .vmem S256x1792 .fp8e5m2).view
/-- One staging buffer of output window 13, through which its contents are stated (`View.read_writes_of_cover`: the
    choice does not matter). -/
abbrev VO0_13 : View sig .tc .vmem S1x256 .f32 := (Memref.whole cc0_stg13_0 : Memref sig .tc .vmem S1x256 .f32).view
/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x14336 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S32x112 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1792 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1792 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1792 .fp8e5m2 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x4096 .f32 := Memref.whole cc0_scratch0
abbrev scM0_1 : Memref sig .tc .vmem S128x256 .f32 := Memref.whole cc0_scratch1
abbrev scM0_2 : Memref sig .tc .vmem S128x512 .bf16 := Memref.whole cc0_scratch2
abbrev scM0_3 : Memref sig .tc .vmem S128x256 .f32 := Memref.whole cc0_scratch3
abbrev scM0_4 : Memref sig .tc .vmem S256x8 .f32 := Memref.whole cc0_scratch4
abbrev scM0_5 : Memref sig .tc .vmem S256x128 .bf16 := Memref.whole cc0_scratch5
abbrev scM0_6 : Memref sig .tc .vmem S256x128 .f32 := Memref.whole cc0_scratch6
/-- The scratch `arg15` the kernel carries between points, as a view: what it holds is stated through it. -/
abbrev VS0_0 : View sig .tc .vmem S256x4096 .f32 := scM0_0.view
/-- The scratch `arg16` the kernel carries between points, as a view: what it holds is stated through it. -/
abbrev VS0_1 : View sig .tc .vmem S128x256 .f32 := scM0_1.view
/-- The scratch `arg17` the kernel carries between points, as a view: what it holds is stated through it. -/
abbrev VS0_2 : View sig .tc .vmem S128x512 .bf16 := scM0_2.view
/-- The scratch `arg18` the kernel carries between points, as a view: what it holds is stated through it. -/
abbrev VS0_3 : View sig .tc .vmem S128x256 .f32 := scM0_3.view
/-- The scratch `arg19` the kernel carries between points, as a view: what it holds is stated through it. -/
abbrev VS0_4 : View sig .tc .vmem S256x8 .f32 := scM0_4.view
/-- The scratch `arg20` the kernel carries between points, as a view: what it holds is stated through it. -/
abbrev VS0_5 : View sig .tc .vmem S256x128 .bf16 := scM0_5.view
/-- The scratch `arg21` the kernel carries between points, as a view: what it holds is stated through it. -/
abbrev VS0_6 : View sig .tc .vmem S256x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.RunKernel.RunA.lean ====
/- The run of the idealised kernel's body at the points of case A: the stores each buffer ends with. -/
module

public import proofs.«01_k».proof.Proof.RunKernel.Points

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 11008000 in
/-- What the body's stores leave in each output's staging memref, as pieces (last first) IN CASE A (`scf.if` 0 taken, `scf.if` 1 not taken: points 0), WITH the
    proof that on whole staging memrefs — the inputs' at their contents, the outputs it leaves idle (8, 9, 11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x4096 .bf16) (harg1 : arg1.IsWhole) (arg2 : Memref sig .tc .vmem S256x14336 .bf16) (harg2 : arg2.IsWhole) (arg3 : Memref sig .tc .vmem S1792x4096 .fp8e4m3) (harg3 : arg3.IsWhole) (arg4 : Memref sig .tc .smem S32x112 .f32) (harg4 : arg4.IsWhole) (arg5 : Memref sig .tc .vmem S128x4096 .bf16) (harg5 : arg5.IsWhole) (arg6 : Memref sig .tc .vmem S128x1792 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S256x4096 .bf16) (harg9 : arg9.IsWhole) (arg10 : Memref sig .tc .vmem S128x4096 .f32) (harg10 : arg10.IsWhole) (arg11 : Memref sig .tc .vmem S128x1792 .f32) (harg11 : arg11.IsWhole) (arg12 : Memref sig .tc .vmem S2x256 .f32) (harg12 : arg12.IsWhole) (arg13 : Memref sig .tc .vmem S256x1792 .fp8e5m2) (harg13 : arg13.IsWhole) (arg14 : Memref sig .tc .vmem S1x256 .f32) (harg14 : arg14.IsWhole) (arg15 : Memref sig .tc .vmem S256x4096 .f32) (harg15 : arg15.IsWhole) (arg16 : Memref sig .tc .vmem S128x256 .f32) (harg16 : arg16.IsWhole) (arg17 : Memref sig .tc .vmem S128x512 .bf16) (harg17 : arg17.IsWhole) (arg18 : Memref sig .tc .vmem S128x256 .f32) (harg18 : arg18.IsWhole) (arg19 : Memref sig .tc .vmem S256x8 .f32) (harg19 : arg19.IsWhole) (arg20 : Memref sig .tc .vmem S256x128 .bf16) (harg20 : arg20.IsWhole) (arg21 : Memref sig .tc .vmem S256x128 .f32) (harg21 : arg21.IsWhole) (hc0 : cond0_0 i) (hc1 : ¬cond0_1 i)
    (x0 : Vec F S256x4096 .bf16) (x1 : Vec F S256x14336 .bf16) (x2 : Vec F S1792x4096 .fp8e4m3) (x3 : Vec F S32x112 .f32) (x4 : Vec F S128x4096 .bf16) (x5 : Vec F S128x1792 .bf16) (x6 : Vec F S2x256 .i32) (x7 : Vec F S2x256 .f32) :
    Σ' (L8 : List (View.Piece (Elt F) S256x4096 .bf16)), Σ' (L9 : List (View.Piece (Elt F) S128x4096 .f32)), Σ' (L10 : List (View.Piece (Elt F) S128x1792 .f32)), Σ' (L11 : List (View.Piece (Elt F) S2x256 .f32)), Σ' (L12 : List (View.Piece (Elt F) S256x1792 .fp8e5m2)), Σ' (L13 : List (View.Piece (Elt F) S1x256 .f32)), Σ' (LS0 : List (View.Piece (Elt F) S256x4096 .f32)), Σ' (LS1 : List (View.Piece (Elt F) S128x256 .f32)), Σ' (LS2 : List (View.Piece (Elt F) S128x512 .bf16)), Σ' (LS3 : List (View.Piece (Elt F) S128x256 .f32)), Σ' (LS4 : List (View.Piece (Elt F) S256x8 .f32)), Σ' (LS5 : List (View.Piece (Elt F) S256x128 .bf16)), { LS6 : List (View.Piece (Elt F) S256x128 .f32) //
      ∀ (xi8 : Vec F S256x4096 .bf16) (xi9 : Vec F S128x4096 .f32) (xi11 : Vec F S2x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ owns (c : Thread nD τ) arg12 fullShare xi11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LS4) ∗ (∃ f, arg20.view.loc (c : Thread nD τ) ↦[arg20.view.set]{fullShare} arg20.view.writes (Elt F) f LS5) ∗ (∃ f, arg21.view.loc (c : Thread nD τ) ↦[arg21.view.set]{fullShare} arg21.view.writes (Elt F) f LS6)) -∗ K ⟨⟩))
          ⊢ wp frame (wpE (defs₀ (F := F)) Variants.none c none) E (cc0_mixlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, [], ?_, ?_, ?_, ?_, ?_, ?_, ?_, ?_, ?_, fun xi8 xi9 xi11 E K => ?run⟩
  case run =>
    simp only [cc0_mixlora_bwd_eq_skeleton]; unfold cc0_mixlora_bwd_skel
    simp only [k0_part155_eq_skeleton, k0_part17_eq_skeleton, k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part156_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.Kernel.Hand

end
-- ==== Proof.RunKernel.RunB.lean ====
/- The run of the idealised kernel's body at the points of case B: the stores each buffer ends with. -/
module

public import proofs.«01_k».proof.Proof.RunKernel.Points

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10328000 in
/-- What the body's stores leave in each output's staging memref, as pieces (last first) IN CASE B (`scf.if` 0 not taken, `scf.if` 1 not taken: points 1, 2, 3, 4, 5, 6), WITH the
    proof that on whole staging memrefs — the inputs' at their contents, the outputs it leaves idle (8, 9, 11, 13: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x4096 .bf16) (harg1 : arg1.IsWhole) (arg2 : Memref sig .tc .vmem S256x14336 .bf16) (harg2 : arg2.IsWhole) (arg3 : Memref sig .tc .vmem S1792x4096 .fp8e4m3) (harg3 : arg3.IsWhole) (arg4 : Memref sig .tc .smem S32x112 .f32) (harg4 : arg4.IsWhole) (arg5 : Memref sig .tc .vmem S128x4096 .bf16) (harg5 : arg5.IsWhole) (arg6 : Memref sig .tc .vmem S128x1792 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S256x4096 .bf16) (harg9 : arg9.IsWhole) (arg10 : Memref sig .tc .vmem S128x4096 .f32) (harg10 : arg10.IsWhole) (arg11 : Memref sig .tc .vmem S128x1792 .f32) (harg11 : arg11.IsWhole) (arg12 : Memref sig .tc .vmem S2x256 .f32) (harg12 : arg12.IsWhole) (arg13 : Memref sig .tc .vmem S256x1792 .fp8e5m2) (harg13 : arg13.IsWhole) (arg14 : Memref sig .tc .vmem S1x256 .f32) (harg14 : arg14.IsWhole) (arg15 : Memref sig .tc .vmem S256x4096 .f32) (harg15 : arg15.IsWhole) (arg16 : Memref sig .tc .vmem S128x256 .f32) (harg16 : arg16.IsWhole) (arg17 : Memref sig .tc .vmem S128x512 .bf16) (harg17 : arg17.IsWhole) (arg18 : Memref sig .tc .vmem S128x256 .f32) (harg18 : arg18.IsWhole) (arg19 : Memref sig .tc .vmem S256x8 .f32) (harg19 : arg19.IsWhole) (arg20 : Memref sig .tc .vmem S256x128 .bf16) (harg20 : arg20.IsWhole) (arg21 : Memref sig .tc .vmem S256x128 .f32) (harg21 : arg21.IsWhole) (hc0 : ¬cond0_0 i) (hc1 : ¬cond0_1 i)
    (x0 : Vec F S256x4096 .bf16) (x1 : Vec F S256x14336 .bf16) (x2 : Vec F S1792x4096 .fp8e4m3) (x3 : Vec F S32x112 .f32) (x4 : Vec F S128x4096 .bf16) (x5 : Vec F S128x1792 .bf16) (x6 : Vec F S2x256 .i32) (x7 : Vec F S2x256 .f32) (xs0 : Vec F S256x4096 .f32) (xs1 : Vec F S128x256 .f32) (xs2 : Vec F S128x512 .bf16) (xs3 : Vec F S128x256 .f32) (xs4 : Vec F S256x8 .f32) (xs5 : Vec F S256x128 .bf16) (xs6 : Vec F S256x128 .f32) :
    Σ' (L8 : List (View.Piece (Elt F) S256x4096 .bf16)), Σ' (L9 : List (View.Piece (Elt F) S128x4096 .f32)), Σ' (L10 : List (View.Piece (Elt F) S128x1792 .f32)), Σ' (L11 : List (View.Piece (Elt F) S2x256 .f32)), Σ' (L12 : List (View.Piece (Elt F) S256x1792 .fp8e5m2)), Σ' (L13 : List (View.Piece (Elt F) S1x256 .f32)), Σ' (LS0 : List (View.Piece (Elt F) S256x4096 .f32)), Σ' (LS1 : List (View.Piece (Elt F) S128x256 .f32)), Σ' (LS2 : List (View.Piece (Elt F) S128x512 .bf16)), Σ' (LS3 : List (View.Piece (Elt F) S128x256 .f32)), Σ' (LS4 : List (View.Piece (Elt F) S256x8 .f32)), Σ' (LS5 : List (View.Piece (Elt F) S256x128 .bf16)), { LS6 : List (View.Piece (Elt F) S256x128 .f32) //
      ∀ (xi8 : Vec F S256x4096 .bf16) (xi9 : Vec F S128x4096 .f32) (xi11 : Vec F S2x256 .f32) (xi13 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ d, owns (c : Thread nD τ) arg11 fullShare d) ∗ owns (c : Thread nD τ) arg12 fullShare xi11 ∗ (∃ d, owns (c : Thread nD τ) arg13 fullShare d) ∗ owns (c : Thread nD τ) arg14 fullShare xi13 ∗ owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5 ∗ owns (c : Thread nD τ) arg21 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0) ∗ owns (c : Thread nD τ) arg16 fullShare xs1 ∗ owns (c : Thread nD τ) arg17 fullShare xs2 ∗ (∃ f, arg18.view.loc (c : Thread nD τ) ↦[arg18.view.set]{fullShare} arg18.view.writes (Elt F) f LS3) ∗ owns (c : Thread nD τ) arg19 fullShare xs4 ∗ owns (c : Thread nD τ) arg20 fullShare xs5 ∗ owns (c : Thread nD τ) arg21 fullShare xs6) -∗ K ⟨⟩))
          ⊢ wp frame (wpE (defs₀ (F := F)) Variants.none c none) E (cc0_mixlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, [], ?_, [], ?_, [], [], ?_, [], [], [], fun xi8 xi9 xi11 xi13 E K => ?run⟩
  case run =>
    simp only [cc0_mixlora_bwd_eq_skeleton]; unfold cc0_mixlora_bwd_skel
    simp only [k0_part155_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part156_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg14.eq_unread hf13; obtain rfl := harg15.eq_unread hfs0; obtain rfl := harg16.eq_unread hfs1; obtain rfl := harg17.eq_unread hfs2; obtain rfl := harg18.eq_unread hfs3; obtain rfl := harg19.eq_unread hfs4; obtain rfl := harg20.eq_unread hfs5; obtain rfl := harg21.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [HS0]; · iexists _; iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    isplitl [HS4]
    · iexists _; isplitr; · ipureintro; exact harg19.read_unread _
      iexact HS4
    isplitl [HS5]
    · iexists _; isplitr; · ipureintro; exact harg20.read_unread _
      iexact HS5
    iexists _; isplitr; · ipureintro; exact harg21.read_unread _
    iexact HS6

end Cert.Kernel.Hand

end
-- ==== Proof.RunKernel.RunC.lean ====
/- The run of the idealised kernel's body at the points of case C: the stores each buffer ends with. -/
module

public import proofs.«01_k».proof.Proof.RunKernel.Points

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10564000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x4096 .bf16) (harg1 : arg1.IsWhole) (arg2 : Memref sig .tc .vmem S256x14336 .bf16) (harg2 : arg2.IsWhole) (arg3 : Memref sig .tc .vmem S1792x4096 .fp8e4m3) (harg3 : arg3.IsWhole) (arg4 : Memref sig .tc .smem S32x112 .f32) (harg4 : arg4.IsWhole) (arg5 : Memref sig .tc .vmem S128x4096 .bf16) (harg5 : arg5.IsWhole) (arg6 : Memref sig .tc .vmem S128x1792 .bf16) (harg6 : arg6.IsWhole) (arg7 : Memref sig .tc .vmem S2x256 .i32) (harg7 : arg7.IsWhole) (arg8 : Memref sig .tc .vmem S2x256 .f32) (harg8 : arg8.IsWhole) (arg9 : Memref sig .tc .vmem S256x4096 .bf16) (harg9 : arg9.IsWhole) (arg10 : Memref sig .tc .vmem S128x4096 .f32) (harg10 : arg10.IsWhole) (arg11 : Memref sig .tc .vmem S128x1792 .f32) (harg11 : arg11.IsWhole) (arg12 : Memref sig .tc .vmem S2x256 .f32) (harg12 : arg12.IsWhole) (arg13 : Memref sig .tc .vmem S256x1792 .fp8e5m2) (harg13 : arg13.IsWhole) (arg14 : Memref sig .tc .vmem S1x256 .f32) (harg14 : arg14.IsWhole) (arg15 : Memref sig .tc .vmem S256x4096 .f32) (harg15 : arg15.IsWhole) (arg16 : Memref sig .tc .vmem S128x256 .f32) (harg16 : arg16.IsWhole) (arg17 : Memref sig .tc .vmem S128x512 .bf16) (harg17 : arg17.IsWhole) (arg18 : Memref sig .tc .vmem S128x256 .f32) (harg18 : arg18.IsWhole) (arg19 : Memref sig .tc .vmem S256x8 .f32) (harg19 : arg19.IsWhole) (arg20 : Memref sig .tc .vmem S256x128 .bf16) (harg20 : arg20.IsWhole) (arg21 : Memref sig .tc .vmem S256x128 .f32) (harg21 : arg21.IsWhole) (hc0 : ¬cond0_0 i) (hc1 : cond0_1 i)
    (x0 : Vec F S256x4096 .bf16) (x1 : Vec F S256x14336 .bf16) (x2 : Vec F S1792x4096 .fp8e4m3) (x3 : Vec F S32x112 .f32) (x4 : Vec F S128x4096 .bf16) (x5 : Vec F S128x1792 .bf16) (x6 : Vec F S2x256 .i32) (x7 : Vec F S2x256 .f32) (xs0 : Vec F S256x4096 .f32) (xs1 : Vec F S128x256 .f32) (xs2 : Vec F S128x512 .bf16) (xs3 : Vec F S128x256 .f32) (xs4 : Vec F S256x8 .f32) (xs5 : Vec F S256x128 .bf16) (xs6 : Vec F S256x128 .f32) :
    Σ' (L8 : List (View.Piece (Elt F) S256x4096 .bf16)), Σ' (L9 : List (View.Piece (Elt F) S128x4096 .f32)), Σ' (L10 : List (View.Piece (Elt F) S128x1792 .f32)), Σ' (L11 : List (View.Piece (Elt F) S2x256 .f32)), Σ' (L12 : List (View.Piece (Elt F) S256x1792 .fp8e5m2)), Σ' (LS0 : List (View.Piece (Elt F) S256x4096 .f32)), Σ' (LS1 : List (View.Piece (Elt F) S128x256 .f32)), Σ' (LS2 : List (View.Piece (Elt F) S128x512 .bf16)), Σ' (LS3 : List (View.Piece (Elt F) S128x256 .f32)), Σ' (LS4 : List (View.Piece (Elt F) S256x8 .f32)), Σ' (LS5 : List (View.Piece (Elt F) S256x128 .bf16)), { LS6 : List (View.Piece (Elt F) S256x128 .f32) //
      ∀ (xi13 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi13 ∗ owns (c : Thread nD τ) arg15 fullShare xs0 ∗ owns (c : Thread nD τ) arg16 fullShare xs1 ∗ owns (c : Thread nD τ) arg17 fullShare xs2 ∗ owns (c : Thread nD τ) arg18 fullShare xs3 ∗ owns (c : Thread nD τ) arg19 fullShare xs4 ∗ owns (c : Thread nD τ) arg20 fullShare xs5 ∗ owns (c : Thread nD τ) arg21 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ (∃ f, arg15.view.loc (c : Thread nD τ) ↦[arg15.view.set]{fullShare} arg15.view.writes (Elt F) f LS0) ∗ owns (c : Thread nD τ) arg16 fullShare xs1 ∗ owns (c : Thread nD τ) arg17 fullShare xs2 ∗ (∃ f, arg18.view.loc (c : Thread nD τ) ↦[arg18.view.set]{fullShare} arg18.view.writes (Elt F) f LS3) ∗ owns (c : Thread nD τ) arg19 fullShare xs4 ∗ owns (c : Thread nD τ) arg20 fullShare xs5 ∗ owns (c : Thread nD τ) arg21 fullShare xs6) -∗ K ⟨⟩))
          ⊢ wp frame (wpE (defs₀ (F := F)) Variants.none c none) E (cc0_mixlora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, [], [], ?_, [], [], [], fun xi13 E K => ?run⟩
  case run =>
    simp only [cc0_mixlora_bwd_eq_skeleton]; unfold cc0_mixlora_bwd_skel
    simp only [k0_part155_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part156_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf13; obtain rfl := harg15.eq_unread hfs0; obtain rfl := harg16.eq_unread hfs1; obtain rfl := harg17.eq_unread hfs2; obtain rfl := harg18.eq_unread hfs3; obtain rfl := harg19.eq_unread hfs4; obtain rfl := harg20.eq_unread hfs5; obtain rfl := harg21.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; isplitr; · ipureintro; exact harg14.read_unread _
      iexact H13
    isplitl [HS0]; · iexists _; iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    isplitl [HS4]
    · iexists _; isplitr; · ipureintro; exact harg19.read_unread _
      iexact HS4
    isplitl [HS5]
    · iexists _; isplitr; · ipureintro; exact harg20.read_unread _
      iexact HS5
    iexists _; isplitr; · ipureintro; exact harg21.read_unread _
    iexact HS6

end Cert.Kernel.Hand

end
-- ==== Proof.RunKernel.Frame.lean ====
/- The kernel's run with every output named: what each point leaves in the carried scratch (`scAt`) and in
   each output's staging buffer, the body obligation, and the launch (`run_main_quiescent`). The row of scales is stored
   at the first point alone and written back at the last, so its buffer is followed through the points between. -/
module

public import proofs.«01_k».proof.Proof.RunKernel.RunA
public import proofs.«01_k».proof.Proof.RunKernel.RunB
public import proofs.«01_k».proof.Proof.RunKernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the seven scratch buffers. -/
structure Sc (F : FTy → Type) where
  acc : Vec F S256x4096 .f32
  ht : Vec F S128x256 .f32
  hm : Vec F S128x512 .bf16
  ut : Vec F S128x256 .f32
  gcol : Vec F S256x8 .f32
  inv : Vec F S256x128 .bf16
  scol : Vec F S256x128 .f32

section Points
variable (c : Dev nD) (t : Fin cfg0.N)

/-- The run of the body at the first point. -/
abbrev rA (h0 : cond0_0 (grid0.coords t)) (h1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h0 h1
    (iblk m c 0 t) (iblk m c 1 t) (iblk m c 2 t) (iblk m c 3 t) (iblk m c 4 t) (iblk m c 5 t) (iblk m c 6 t) (iblk m c 7 t)

/-- The run of the body at a middle point, over the scratch `s`. -/
abbrev rB (h0 : ¬cond0_0 (grid0.coords t)) (h1 : ¬cond0_1 (grid0.coords t)) (s : Sc F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h0 h1
    (iblk m c 0 t) (iblk m c 1 t) (iblk m c 2 t) (iblk m c 3 t) (iblk m c 4 t) (iblk m c 5 t) (iblk m c 6 t) (iblk m c 7 t) s.acc s.ht s.hm s.ut s.gcol s.inv s.scol

/-- The run of the body at the last point, over the scratch `s`. -/
abbrev rC (h0 : ¬cond0_0 (grid0.coords t)) (h1 : cond0_1 (grid0.coords t)) (s : Sc F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) h0 h1
    (iblk m c 0 t) (iblk m c 1 t) (iblk m c 2 t) (iblk m c 3 t) (iblk m c 4 t) (iblk m c 5 t) (iblk m c 6 t) (iblk m c 7 t) s.acc s.ht s.hm s.ut s.gcol s.inv s.scol

variable (a0 : cond0_0 (grid0.coords t)) (b0 : ¬cond0_0 (grid0.coords t)) (a1 : cond0_1 (grid0.coords t)) (b1 : ¬cond0_1 (grid0.coords t)) (s : Sc F)

theorem cover0_A_10 (a0 : cond0_0 (grid0.coords t)) (b1 : ¬cond0_1 (grid0.coords t)) (y : S128x1792.Idx) : ∃ pc ∈ (rA m c t a0 b1).2.2.1, y ∈ pc.1.set :=
  View.cover_of_tiledL (rA m c t a0 b1).2.2.1 S128x1792.size (by sl_kernel_rfl) y
theorem cover0_A_12 (a0 : cond0_0 (grid0.coords t)) (b1 : ¬cond0_1 (grid0.coords t)) (y : S256x1792.Idx) : ∃ pc ∈ (rA m c t a0 b1).2.2.2.2.1, y ∈ pc.1.set :=
  View.cover_of_tiledL (rA m c t a0 b1).2.2.2.2.1 S256x1792.size (by sl_kernel_rfl) y
theorem cover0_A_13 (a0 : cond0_0 (grid0.coords t)) (b1 : ¬cond0_1 (grid0.coords t)) (y : S1x256.Idx) : ∃ pc ∈ (rA m c t a0 b1).2.2.2.2.2.1, y ∈ pc.1.set :=
  View.cover_of_tiledL (rA m c t a0 b1).2.2.2.2.2.1 S1x256.size (by sl_kernel_rfl) y
theorem scover0_A_0 (a0 : cond0_0 (grid0.coords t)) (b1 : ¬cond0_1 (grid0.coords t)) (y : S256x4096.Idx) : ∃ pc ∈ (rA m c t a0 b1).2.2.2.2.2.2.1, y ∈ pc.1.set :=
  View.cover_of_wholeMem (rA m c t a0 b1).2.2.2.2.2.2.1 (by sl_whole_mem) y
theorem scover0_A_1 (a0 : cond0_0 (grid0.coords t)) (b1 : ¬cond0_1 (grid0.coords t)) (y : S128x256.Idx) : ∃ pc ∈ (rA m c t a0 b1).2.2.2.2.2.2.2.1, y ∈ pc.1.set :=
  View.cover_of_tiledL (rA m c t a0 b1).2.2.2.2.2.2.2.1 S128x256.size (by sl_kernel_rfl) y
theorem scover0_A_2 (a0 : cond0_0 (grid0.coords t)) (b1 : ¬cond0_1 (grid0.coords t)) (y : S128x512.Idx) : ∃ pc ∈ (rA m c t a0 b1).2.2.2.2.2.2.2.2.1, y ∈ pc.1.set :=
  View.cover_of_tiledL (rA m c t a0 b1).2.2.2.2.2.2.2.2.1 S128x256.size (by sl_kernel_rfl) y
theorem scover0_A_3 (a0 : cond0_0 (grid0.coords t)) (b1 : ¬cond0_1 (grid0.coords t)) (y : S128x256.Idx) : ∃ pc ∈ (rA m c t a0 b1).2.2.2.2.2.2.2.2.2.1, y ∈ pc.1.set :=
  View.cover_of_tiledL (rA m c t a0 b1).2.2.2.2.2.2.2.2.2.1 S128x256.size (by sl_kernel_rfl) y
theorem scover0_A_4 (a0 : cond0_0 (grid0.coords t)) (b1 : ¬cond0_1 (grid0.coords t)) (y : S256x8.Idx) : ∃ pc ∈ (rA m c t a0 b1).2.2.2.2.2.2.2.2.2.2.1, y ∈ pc.1.set :=
  View.cover_of_tiledL (rA m c t a0 b1).2.2.2.2.2.2.2.2.2.2.1 S256x8.size (by sl_kernel_rfl) y
theorem scover0_A_5 (a0 : cond0_0 (grid0.coords t)) (b1 : ¬cond0_1 (grid0.coords t)) (y : S256x128.Idx) : ∃ pc ∈ (rA m c t a0 b1).2.2.2.2.2.2.2.2.2.2.2.1, y ∈ pc.1.set :=
  View.cover_of_tiledL (rA m c t a0 b1).2.2.2.2.2.2.2.2.2.2.2.1 S256x128.size (by sl_kernel_rfl) y
theorem scover0_A_6 (a0 : cond0_0 (grid0.coords t)) (b1 : ¬cond0_1 (grid0.coords t)) (y : S256x128.Idx) : ∃ pc ∈ (rA m c t a0 b1).2.2.2.2.2.2.2.2.2.2.2.2.1, y ∈ pc.1.set :=
  View.cover_of_tiledL (rA m c t a0 b1).2.2.2.2.2.2.2.2.2.2.2.2.1 S256x128.size (by sl_kernel_rfl) y
theorem cover0_B_10 (b0 : ¬cond0_0 (grid0.coords t)) (b1 : ¬cond0_1 (grid0.coords t)) (s : Sc F) (y : S128x1792.Idx) : ∃ pc ∈ (rB m c t b0 b1 s).2.2.1, y ∈ pc.1.set :=
  View.cover_of_tiledL (rB m c t b0 b1 s).2.2.1 S128x1792.size (by sl_kernel_rfl) y
theorem cover0_B_12 (b0 : ¬cond0_0 (grid0.coords t)) (b1 : ¬cond0_1 (grid0.coords t)) (s : Sc F) (y : S256x1792.Idx) : ∃ pc ∈ (rB m c t b0 b1 s).2.2.2.2.1, y ∈ pc.1.set :=
  View.cover_of_tiledL (rB m c t b0 b1 s).2.2.2.2.1 S256x1792.size (by sl_kernel_rfl) y
theorem scover0_B_0 (b0 : ¬cond0_0 (grid0.coords t)) (b1 : ¬cond0_1 (grid0.coords t)) (s : Sc F) (y : S256x4096.Idx) : ∃ pc ∈ (rB m c t b0 b1 s).2.2.2.2.2.2.1, y ∈ pc.1.set :=
  View.cover_of_tiledL (rB m c t b0 b1 s).2.2.2.2.2.2.1 S256x512.size (by sl_kernel_rfl) y
theorem scover0_B_3 (b0 : ¬cond0_0 (grid0.coords t)) (b1 : ¬cond0_1 (grid0.coords t)) (s : Sc F) (y : S128x256.Idx) : ∃ pc ∈ (rB m c t b0 b1 s).2.2.2.2.2.2.2.2.2.1, y ∈ pc.1.set :=
  View.cover_of_tiledL (rB m c t b0 b1 s).2.2.2.2.2.2.2.2.2.1 S128x256.size (by sl_kernel_rfl) y
theorem cover0_C_8 (b0 : ¬cond0_0 (grid0.coords t)) (a1 : cond0_1 (grid0.coords t)) (s : Sc F) (y : S256x4096.Idx) : ∃ pc ∈ (rC m c t b0 a1 s).1, y ∈ pc.1.set :=
  View.cover_of_tiledL (rC m c t b0 a1 s).1 S256x512.size (by sl_kernel_rfl) y
theorem cover0_C_9 (b0 : ¬cond0_0 (grid0.coords t)) (a1 : cond0_1 (grid0.coords t)) (s : Sc F) (y : S128x4096.Idx) : ∃ pc ∈ (rC m c t b0 a1 s).2.1, y ∈ pc.1.set :=
  View.cover_of_tiledL (rC m c t b0 a1 s).2.1 S128x4096.size (by sl_kernel_rfl) y
theorem cover0_C_10 (b0 : ¬cond0_0 (grid0.coords t)) (a1 : cond0_1 (grid0.coords t)) (s : Sc F) (y : S128x1792.Idx) : ∃ pc ∈ (rC m c t b0 a1 s).2.2.1, y ∈ pc.1.set :=
  View.cover_of_tiledL (rC m c t b0 a1 s).2.2.1 S128x1792.size (by sl_kernel_rfl) y
theorem cover0_C_11 (b0 : ¬cond0_0 (grid0.coords t)) (a1 : cond0_1 (grid0.coords t)) (s : Sc F) (y : S2x256.Idx) : ∃ pc ∈ (rC m c t b0 a1 s).2.2.2.1, y ∈ pc.1.set :=
  View.cover_of_tiledL (rC m c t b0 a1 s).2.2.2.1 S1x256.size (by sl_kernel_rfl) y
theorem cover0_C_12 (b0 : ¬cond0_0 (grid0.coords t)) (a1 : cond0_1 (grid0.coords t)) (s : Sc F) (y : S256x1792.Idx) : ∃ pc ∈ (rC m c t b0 a1 s).2.2.2.2.1, y ∈ pc.1.set :=
  View.cover_of_tiledL (rC m c t b0 a1 s).2.2.2.2.1 S256x1792.size (by sl_kernel_rfl) y
theorem scover0_C_0 (b0 : ¬cond0_0 (grid0.coords t)) (a1 : cond0_1 (grid0.coords t)) (s : Sc F) (y : S256x4096.Idx) : ∃ pc ∈ (rC m c t b0 a1 s).2.2.2.2.2.1, y ∈ pc.1.set :=
  View.cover_of_tiledL (rC m c t b0 a1 s).2.2.2.2.2.1 S256x512.size (by sl_kernel_rfl) y
theorem scover0_C_3 (b0 : ¬cond0_0 (grid0.coords t)) (a1 : cond0_1 (grid0.coords t)) (s : Sc F) (y : S128x256.Idx) : ∃ pc ∈ (rC m c t b0 a1 s).2.2.2.2.2.2.2.2.1, y ∈ pc.1.set :=
  View.cover_of_tiledL (rC m c t b0 a1 s).2.2.2.2.2.2.2.2.1 S128x256.size (by sl_kernel_rfl) y

/-- The scratch the first point leaves. -/
def scA (a0 : cond0_0 (grid0.coords t)) (b1 : ¬cond0_1 (grid0.coords t)) : Sc F where
  acc := VS0_0.read (Elt F) (VS0_0.writes (Elt F) VS0_0.junk (rA m c t a0 b1).2.2.2.2.2.2.1)
  ht := VS0_1.read (Elt F) (VS0_1.writes (Elt F) VS0_1.junk (rA m c t a0 b1).2.2.2.2.2.2.2.1)
  hm := VS0_2.read (Elt F) (VS0_2.writes (Elt F) VS0_2.junk (rA m c t a0 b1).2.2.2.2.2.2.2.2.1)
  ut := VS0_3.read (Elt F) (VS0_3.writes (Elt F) VS0_3.junk (rA m c t a0 b1).2.2.2.2.2.2.2.2.2.1)
  gcol := VS0_4.read (Elt F) (VS0_4.writes (Elt F) VS0_4.junk (rA m c t a0 b1).2.2.2.2.2.2.2.2.2.2.1)
  inv := VS0_5.read (Elt F) (VS0_5.writes (Elt F) VS0_5.junk (rA m c t a0 b1).2.2.2.2.2.2.2.2.2.2.2.1)
  scol := VS0_6.read (Elt F) (VS0_6.writes (Elt F) VS0_6.junk (rA m c t a0 b1).2.2.2.2.2.2.2.2.2.2.2.2.1)
/-- The scratch a point of case B leaves: the accumulator and the projected gradient move, the rest stays. -/
def scB (b0 : ¬cond0_0 (grid0.coords t)) (b1 : ¬cond0_1 (grid0.coords t)) (s : Sc F) : Sc F :=
  { s with
    acc := VS0_0.read (Elt F) (VS0_0.writes (Elt F) VS0_0.junk (rB m c t b0 b1 s).2.2.2.2.2.2.1)
    ut := VS0_3.read (Elt F) (VS0_3.writes (Elt F) VS0_3.junk (rB m c t b0 b1 s).2.2.2.2.2.2.2.2.2.1) }
/-- The scratch a point of case C leaves: the accumulator and the projected gradient move, the rest stays. -/
def scC (b0 : ¬cond0_0 (grid0.coords t)) (a1 : cond0_1 (grid0.coords t)) (s : Sc F) : Sc F :=
  { s with
    acc := VS0_0.read (Elt F) (VS0_0.writes (Elt F) VS0_0.junk (rC m c t b0 a1 s).2.2.2.2.2.1)
    ut := VS0_3.read (Elt F) (VS0_3.writes (Elt F) VS0_3.junk (rC m c t b0 a1 s).2.2.2.2.2.2.2.2.1) }

end Points

theorem tc0 (t : Fin cfg0.N) (h : t.val = 0) : cond0_0 (grid0.coords t) := (hcond0_0 t).mpr (by omega)
theorem tn0 (t : Fin cfg0.N) (h : t.val ≠ 0) : ¬cond0_0 (grid0.coords t) := fun e => by
  have := (hcond0_0 t).mp e; have hN : t.val < 8 := lt_of_lt_of_eq t.isLt N_0; omega
theorem tc7 (t : Fin cfg0.N) (h : t.val = 7) : cond0_1 (grid0.coords t) := (hcond0_1 t).mpr (by omega)
theorem tn7 (t : Fin cfg0.N) (h : t.val ≠ 7) : ¬cond0_1 (grid0.coords t) := fun e => by
  have := (hcond0_1 t).mp e; have hN : t.val < 8 := lt_of_lt_of_eq t.isLt N_0; omega

/-- What the scratch holds after point `n`. -/
def scAt (c : Dev nD) : (n : ℕ) → n < cfg0.N → Sc F
  | 0, hn => scA m c ⟨0, hn⟩ (tc0 _ rfl) (tn7 _ (show (0 : ℕ) ≠ 7 by decide))
  | n + 1, hn =>
    if h : n + 1 = 7 then scC m c ⟨n + 1, hn⟩ (tn0 _ (Nat.succ_ne_zero n)) (tc7 _ h) (scAt c n (Nat.lt_of_succ_lt hn))
    else scB m c ⟨n + 1, hn⟩ (tn0 _ (Nat.succ_ne_zero n)) (tn7 _ h) (scAt c n (Nat.lt_of_succ_lt hn))

theorem pred_lt (t : Fin cfg0.N) : t.val - 1 < cfg0.N := Nat.lt_of_le_of_lt (Nat.sub_le _ _) t.isLt

theorem scAt_A (c : Dev nD) (t : Fin cfg0.N) (h0 : t.val = 0) (a0 b1) : scAt m c t.val t.isLt = scA m c t a0 b1 := by
  obtain ⟨n, hn⟩ := t
  cases n with
  | zero => rfl
  | succ n => exact absurd h0 (Nat.succ_ne_zero n)

theorem scAt_B (c : Dev nD) (t : Fin cfg0.N) (h0 : t.val ≠ 0) (h1 : t.val ≠ 7) (b0 b1) :
    scAt m c t.val t.isLt = scB m c t b0 b1 (scAt m c (t.val - 1) (pred_lt t)) := by
  obtain ⟨n, hn⟩ := t
  cases n with
  | zero => exact absurd rfl h0
  | succ n => exact dif_neg h1

theorem scAt_C (c : Dev nD) (t : Fin cfg0.N) (h0 : t.val ≠ 0) (h1 : t.val = 7) (b0 a1) :
    scAt m c t.val t.isLt = scC m c t b0 a1 (scAt m c (t.val - 1) (pred_lt t)) := by
  obtain ⟨n, hn⟩ := t
  cases n with
  | zero => exact absurd rfl h0
  | succ n => exact dif_pos h1

/-- Output 8 at point `t`: stored at the last point alone. -/
def out8 (c : Dev nD) (t : Fin cfg0.N) : Vec F S256x4096 .bf16 :=
  if h1 : t.val = 7 then VO0_8.read (Elt F) (VO0_8.writes (Elt F) VO0_8.junk (rC m c t (tn0 t (by omega)) (tc7 t h1) (scAt m c (t.val - 1) (pred_lt t))).1)
  else VO0_8.read (Elt F) VO0_8.junk
/-- Output 9 at point `t`: stored at the last point alone. -/
def out9 (c : Dev nD) (t : Fin cfg0.N) : Vec F S128x4096 .f32 :=
  if h1 : t.val = 7 then VO0_9.read (Elt F) (VO0_9.writes (Elt F) VO0_9.junk (rC m c t (tn0 t (by omega)) (tc7 t h1) (scAt m c (t.val - 1) (pred_lt t))).2.1)
  else VO0_9.read (Elt F) VO0_9.junk
/-- Output 11 at point `t`: stored at the last point alone. -/
def out11 (c : Dev nD) (t : Fin cfg0.N) : Vec F S2x256 .f32 :=
  if h1 : t.val = 7 then VO0_11.read (Elt F) (VO0_11.writes (Elt F) VO0_11.junk (rC m c t (tn0 t (by omega)) (tc7 t h1) (scAt m c (t.val - 1) (pred_lt t))).2.2.2.1)
  else VO0_11.read (Elt F) VO0_11.junk
/-- Output 10 at point `t`: stored at every point. -/
def out10 (c : Dev nD) (t : Fin cfg0.N) : Vec F S128x1792 .f32 :=
  if h0 : t.val = 0 then VO0_10.read (Elt F) (VO0_10.writes (Elt F) VO0_10.junk (rA m c t (tc0 t h0) (tn7 t (by omega))).2.2.1)
  else if h1 : t.val = 7 then VO0_10.read (Elt F) (VO0_10.writes (Elt F) VO0_10.junk (rC m c t (tn0 t h0) (tc7 t h1) (scAt m c (t.val - 1) (pred_lt t))).2.2.1)
  else VO0_10.read (Elt F) (VO0_10.writes (Elt F) VO0_10.junk (rB m c t (tn0 t h0) (tn7 t h1) (scAt m c (t.val - 1) (pred_lt t))).2.2.1)
/-- Output 12 at point `t`: stored at every point. -/
def out12 (c : Dev nD) (t : Fin cfg0.N) : Vec F S256x1792 .fp8e5m2 :=
  if h0 : t.val = 0 then VO0_12.read (Elt F) (VO0_12.writes (Elt F) VO0_12.junk (rA m c t (tc0 t h0) (tn7 t (by omega))).2.2.2.2.1)
  else if h1 : t.val = 7 then VO0_12.read (Elt F) (VO0_12.writes (Elt F) VO0_12.junk (rC m c t (tn0 t h0) (tc7 t h1) (scAt m c (t.val - 1) (pred_lt t))).2.2.2.2.1)
  else VO0_12.read (Elt F) (VO0_12.writes (Elt F) VO0_12.junk (rB m c t (tn0 t h0) (tn7 t h1) (scAt m c (t.val - 1) (pred_lt t))).2.2.2.2.1)
/-- The row of scales, stored at the first point. -/
def out13 (c : Dev nD) : Vec F S1x256 .f32 :=
  VO0_13.read (Elt F) (VO0_13.writes (Elt F) VO0_13.junk (rA m c ⟨0, by decide⟩ (tc0 _ rfl) (tn7 _ (show (0 : ℕ) ≠ 7 by decide))).2.2.2.2.2.1)

/-- The scratch buffers held at contents `s`. -/
def scOwns (c : Dev nD) (s : Sc F) : sProp 𝕄 :=
  iprop(owns (c : Thread nD τ) scM0_0 fullShare s.acc ∗ owns (c : Thread nD τ) scM0_1 fullShare s.ht ∗ owns (c : Thread nD τ) scM0_2 fullShare s.hm ∗ owns (c : Thread nD τ) scM0_3 fullShare s.ut ∗ owns (c : Thread nD τ) scM0_4 fullShare s.gcol ∗ owns (c : Thread nD τ) scM0_5 fullShare s.inv ∗ owns (c : Thread nD τ) scM0_6 fullShare s.scol)

/-- The region invariant before position `n`: before the first point every scratch at anything, afterwards at what the
    point before left; and the generator register at some state. -/
def PhiS (c : Dev nD) : (n : ℕ) → n ≤ cfg0.N → sProp 𝕄
  | 0, _ => Pipeline.ΦA spec0 c
  | n + 1, hn => iprop(scOwns c (scAt m c n hn) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(scOwns c (scAt m c (n - 1) (by omega)) ∗ (∃ r, prngReg c r)) := by
  cases n with
  | zero => exact absurd rfl hz
  | succ n => rfl

/-- The pipeline's proof data: each input's buffer stays at its block, each output's is at `outW`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => out9 m c t
    | ⟨10, _⟩ => out10 m c t
    | ⟨11, _⟩ => out11 m c t
    | ⟨12, _⟩ => out12 m c t
    | ⟨13, _⟩ => out13 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats, Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem after0_13 (c : Dev nD) (t : Fin cfg0.N) : (dats m 0 c).after 13 t = out13 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scales' buffer after the first point: what the first point stored, through the idle points between. -/
theorem before0_13 (c : Dev nD) (t : Fin cfg0.N) (ht : t.val ≠ 0) (d) : (dats m 0 c).before 13 t d = out13 m c := by
  obtain ⟨n, hn⟩ := t
  induction n with
  | zero => exact absurd rfl ht
  | succ n ih =>
    have hN : n + 1 < 8 := lt_of_lt_of_eq hn N_0
    have hfe : (cfg0.win 13).fetch ⟨n + 1, hn⟩ = false := by
      have : ∀ t : Fin cfg0.N, (cfg0.win 13).fetch t = false := by decide +kernel
      exact this _
    have hfl : (cfg0.win 13).flush ⟨n, Nat.lt_of_succ_lt hn⟩ = false := by
      have : ∀ t : Fin cfg0.N, ¬cond0_1 (grid0.coords t) → (cfg0.win 13).flush t = false := by decide +kernel
      exact this _ (tn7 _ (by simp only; omega))
    rw [Dat.before_of_pos (dats m 0 c) 13 _ ht hfe d]
    simp only [Nat.add_sub_cancel]
    rw [hfl]
    rcases Nat.eq_zero_or_pos n with rfl | hp
    · have hl := liveAt0_13_A ⟨0, Nat.lt_of_succ_lt hn⟩ (tc0 _ rfl) (tn7 _ (show (0 : ℕ) ≠ 7 by decide))
      simp only [Bool.false_eq_true, if_false, Dat.left]
      rw [show idle0 13 (grid0.coords ⟨0, Nat.lt_of_succ_lt hn⟩) = false from hl]
      simp only [Dat.kept, after0_13]
      try rfl
    · have hi := idleAt0_13_B ⟨n, Nat.lt_of_succ_lt hn⟩ (tn0 _ (by simp only; omega)) (tn7 _ (by simp only; omega))
      simp only [Bool.false_eq_true, if_false, Dat.left]
      rw [show idle0 13 (grid0.coords ⟨n, Nat.lt_of_succ_lt hn⟩) = true from hi]
      exact ih (Nat.lt_of_succ_lt hn) (by simp only; omega)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves_live (c : Dev nD) (t : Fin cfg0.N) (w : Fin cfg0.W) (h : cfg0.idle w (grid0.coords t) = false) :
    (dats m 0 c).leavesExact w t = owns c ((cfg0.win w).stage (cfg0.slots t w)) fullShare ((dats m 0 c).after w t) := by
  unfold Dat.leavesExact; rw [show cfg0.grid.coords t = grid0.coords t from rfl, h]

set_option maxHeartbeats 24000000 in
/-- The body at the first point. -/
theorem sound_A (c : Dev nD) (t : Fin cfg0.N) (a0 : cond0_0 (grid0.coords t)) (b1 : ¬cond0_1 (grid0.coords t)) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(scOwns c (scAt m c t.val t.isLt) ∗ (∃ r, prngReg c r)) from rfl]
  rw [leaves_live m c t 0 (liveAt0_0 t), after0_0, leaves_live m c t 1 (liveAt0_1 t), after0_1, leaves_live m c t 2 (liveAt0_2 t), after0_2, leaves_live m c t 3 (liveAt0_3 t), after0_3, leaves_live m c t 4 (liveAt0_4 t), after0_4, leaves_live m c t 5 (liveAt0_5 t), after0_5, leaves_live m c t 6 (liveAt0_6 t), after0_6, leaves_live m c t 7 (liveAt0_7 t), after0_7]
  rw [Dat.leavesExact_idle (dats m 0 c) 8 t (idleAt0_8_A t a0 b1) (noFlush0_8_A t a0 b1)]
  rw [Dat.leavesExact_idle (dats m 0 c) 9 t (idleAt0_9_A t a0 b1) (noFlush0_9_A t a0 b1)]
  rw [leaves_live m c t 10 (liveAt0_10 t), after0_10]
  rw [Dat.leavesExact_idle (dats m 0 c) 11 t (idleAt0_11_A t a0 b1) (noFlush0_11_A t a0 b1)]
  rw [leaves_live m c t 12 (liveAt0_12 t), after0_12]
  rw [leaves_live m c t 13 (liveAt0_13_A t a0 b1), after0_13]
  rw [PhiS_castSucc m c t, PhiS_zero m c _ _ h0, PhiA0_eq, scAt_A m c t h0 a0 b1]
  rw [show out10 m c t = _ from dif_pos h0, show out12 m c t = _ from dif_pos h0]
  rw [show out13 m c = VO0_13.read (Elt F) (VO0_13.writes (Elt F) VO0_13.junk (rA m c t a0 b1).2.2.2.2.2.1) from by
    obtain ⟨n, hn⟩ := t; obtain rfl : n = 0 := h0; rfl]
  unfold scOwns scA; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rA m c t a0 b1).2.2.2.2.2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, H11, ⟨%e12, H12⟩, ⟨%e13, H13⟩, ⟨%es0, HS0⟩, ⟨%es1, HS1⟩, ⟨%es2, HS2⟩, ⟨%es3, HS3⟩, ⟨%es4, HS4⟩, ⟨%es5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (scover0_A_0 m c t a0 b1)
      isplitl [HS1]
      · unfold owns; iexists _; isplitr
        swap; · iexact HS1
        ipureintro; exact View.read_writes_of_cover _ _ _ _ _ (scover0_A_1 m c t a0 b1)
      isplitl [HS2]
      · unfold owns; iexists _; isplitr
        swap; · iexact HS2
        ipureintro; exact View.read_writes_of_cover _ _ _ _ _ (scover0_A_2 m c t a0 b1)
      isplitl [HS3]
      · unfold owns; iexists _; isplitr
        swap; · iexact HS3
        ipureintro; exact View.read_writes_of_cover _ _ _ _ _ (scover0_A_3 m c t a0 b1)
      isplitl [HS4]
      · unfold owns; iexists _; isplitr
        swap; · iexact HS4
        ipureintro; exact View.read_writes_of_cover _ _ _ _ _ (scover0_A_4 m c t a0 b1)
      isplitl [HS5]
      · unfold owns; iexists _; isplitr
        swap; · iexact HS5
        ipureintro; exact View.read_writes_of_cover _ _ _ _ _ (scover0_A_5 m c t a0 b1)
      unfold owns; iexists _; isplitr
      swap; · iexact HS6
      ipureintro; exact View.read_writes_of_cover _ _ _ _ _ (scover0_A_6 m c t a0 b1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ (cover0_A_10 m c t a0 b1)
  isplitl [H11]; · iexists _; iexact H11
  isplitl [H12]
  · unfold owns; iexists _; isplitr
    swap; · iexact H12
    ipureintro; exact View.read_writes_of_cover _ _ _ _ _ (cover0_A_12 m c t a0 b1)
  unfold owns; iexists _; isplitr
  swap; · iexact H13
  ipureintro; exact View.read_writes_of_cover _ _ _ _ _ (cover0_A_13 m c t a0 b1)

set_option maxHeartbeats 24000000 in
/-- The body at a middle point. -/
theorem sound_B (c : Dev nD) (t : Fin cfg0.N) (b0 : ¬cond0_0 (grid0.coords t)) (b1 : ¬cond0_1 (grid0.coords t)) (h0 : t.val ≠ 0) (h1 : t.val ≠ 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(scOwns c (scAt m c t.val t.isLt) ∗ (∃ r, prngReg c r)) from rfl]
  rw [leaves_live m c t 0 (liveAt0_0 t), after0_0, leaves_live m c t 1 (liveAt0_1 t), after0_1, leaves_live m c t 2 (liveAt0_2 t), after0_2, leaves_live m c t 3 (liveAt0_3 t), after0_3, leaves_live m c t 4 (liveAt0_4 t), after0_4, leaves_live m c t 5 (liveAt0_5 t), after0_5, leaves_live m c t 6 (liveAt0_6 t), after0_6, leaves_live m c t 7 (liveAt0_7 t), after0_7]
  rw [Dat.leavesExact_idle (dats m 0 c) 8 t (idleAt0_8_B t b0 b1) (noFlush0_8_B t b0 b1)]
  rw [Dat.leavesExact_idle (dats m 0 c) 9 t (idleAt0_9_B t b0 b1) (noFlush0_9_B t b0 b1)]
  rw [leaves_live m c t 10 (liveAt0_10 t), after0_10]
  rw [Dat.leavesExact_idle (dats m 0 c) 11 t (idleAt0_11_B t b0 b1) (noFlush0_11_B t b0 b1)]
  rw [leaves_live m c t 12 (liveAt0_12 t), after0_12]
  rw [Dat.leavesExact_idle (dats m 0 c) 13 t (idleAt0_13_B t b0 b1) (noFlush0_13_B t b0 b1)]
  rw [PhiS_castSucc m c t, PhiS_pos m c _ _ h0, scAt_B m c t h0 h1 b0 b1]
  rw [show out10 m c t = _ from (dif_neg h0).trans (dif_neg h1)]
  rw [show out12 m c t = _ from (dif_neg h0).trans (dif_neg h1)]
  generalize scAt m c (t.val - 1) (pred_lt t) = s
  unfold scOwns scB; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rB m c t b0 b1 s).2.2.2.2.2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, ⟨%e10, H10⟩, H11, ⟨%e12, H12⟩, H13, ⟨%es0, HS0⟩, HS1, HS2, ⟨%es3, HS3⟩, HS4, HS5, HS6⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (scover0_B_0 m c t b0 b1 s)
      isplitl [HS1]; · iexact HS1
      isplitl [HS2]; · iexact HS2
      isplitl [HS3]
      · unfold owns; iexists _; isplitr
        swap; · iexact HS3
        ipureintro; exact View.read_writes_of_cover _ _ _ _ _ (scover0_B_3 m c t b0 b1 s)
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ (cover0_B_10 m c t b0 b1 s)
  isplitl [H11]; · iexists _; iexact H11
  isplitl [H12]
  · unfold owns; iexists _; isplitr
    swap; · iexact H12
    ipureintro; exact View.read_writes_of_cover _ _ _ _ _ (cover0_B_12 m c t b0 b1 s)
  iexists _; iexact H13

set_option maxHeartbeats 24000000 in
/-- The body at the last point. -/
theorem sound_C (c : Dev nD) (t : Fin cfg0.N) (b0 : ¬cond0_0 (grid0.coords t)) (a1 : cond0_1 (grid0.coords t)) (h0 : t.val ≠ 0) (h1 : t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = iprop(scOwns c (scAt m c t.val t.isLt) ∗ (∃ r, prngReg c r)) from rfl]
  rw [leaves_live m c t 0 (liveAt0_0 t), after0_0, leaves_live m c t 1 (liveAt0_1 t), after0_1, leaves_live m c t 2 (liveAt0_2 t), after0_2, leaves_live m c t 3 (liveAt0_3 t), after0_3, leaves_live m c t 4 (liveAt0_4 t), after0_4, leaves_live m c t 5 (liveAt0_5 t), after0_5, leaves_live m c t 6 (liveAt0_6 t), after0_6, leaves_live m c t 7 (liveAt0_7 t), after0_7]
  rw [leaves_live m c t 8 (liveAt0_8_C t b0 a1), after0_8]
  rw [leaves_live m c t 9 (liveAt0_9_C t b0 a1), after0_9]
  rw [leaves_live m c t 10 (liveAt0_10 t), after0_10]
  rw [leaves_live m c t 11 (liveAt0_11_C t b0 a1), after0_11]
  rw [leaves_live m c t 12 (liveAt0_12 t), after0_12]
  rw [show (dats m 0 c).leavesExact 13 t = owns (c : Thread nD τ) (ms0_13 t) fullShare (out13 m c) from by
    unfold Dat.leavesExact; rw [show cfg0.grid.coords t = grid0.coords t from rfl, idleAt0_13_C t b0 a1, flush0_13_C t b0 a1, after0_13]]
  simp only [before0_13 m c t h0]
  rw [PhiS_castSucc m c t, PhiS_pos m c _ _ h0, scAt_C m c t h0 h1 b0 a1]
  rw [show out8 m c t = _ from dif_pos h1]
  rw [show out9 m c t = _ from dif_pos h1]
  rw [show out11 m c t = _ from dif_pos h1]
  rw [show out10 m c t = _ from (dif_neg h0).trans (dif_pos h1)]
  rw [show out12 m c t = _ from (dif_neg h0).trans (dif_pos h1)]
  generalize scAt m c (t.val - 1) (pred_lt t) = s
  unfold scOwns scC; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((rC m c t b0 a1 s).2.2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, ⟨%e8, H8⟩, ⟨%e9, H9⟩, ⟨%e10, H10⟩, ⟨%e11, H11⟩, ⟨%e12, H12⟩, H13, ⟨%es0, HS0⟩, HS1, HS2, ⟨%es3, HS3⟩, HS4, HS5, HS6⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (scover0_C_0 m c t b0 a1 s)
      isplitl [HS1]; · iexact HS1
      isplitl [HS2]; · iexact HS2
      isplitl [HS3]
      · unfold owns; iexists _; isplitr
        swap; · iexact HS3
        ipureintro; exact View.read_writes_of_cover _ _ _ _ _ (scover0_C_3 m c t b0 a1 s)
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_C_8 m c t b0 a1 s)
  isplitl [H9]
  · unfold owns; iexists _; isplitr
    swap; · iexact H9
    ipureintro; exact View.read_writes_of_cover _ _ _ _ _ (cover0_C_9 m c t b0 a1 s)
  isplitl [H10]
  · unfold owns; iexists _; isplitr
    swap; · iexact H10
    ipureintro; exact View.read_writes_of_cover _ _ _ _ _ (cover0_C_10 m c t b0 a1 s)
  isplitl [H11]
  · unfold owns; iexists _; isplitr
    swap; · iexact H11
    ipureintro; exact View.read_writes_of_cover _ _ _ _ _ (cover0_C_11 m c t b0 a1 s)
  isplitl [H12]
  · unfold owns; iexists _; isplitr
    swap; · iexact H12
    ipureintro; exact View.read_writes_of_cover _ _ _ _ _ (cover0_C_12 m c t b0 a1 s)
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t (tc0 t h0) (tn7 t (by omega)) h0
  · by_cases h1 : t.val = 7
    · exact sound_C m c t (tn0 t h0) (tc7 t h1) h0 h1
    · exact sound_B m c t (tn0 t h0) (tn7 t h1) h0 h1

theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold scOwns
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Value.Spec.lean ====
/- The backward pass as plain formulas over the extended reals: what both programs' results are read against. -/
module

public import Idealize.ShloMosaic.Lib.Pointwise

@[expose] public section

noncomputable section

namespace Cert.Spec

open Idealize.ShloMosaic

/-- The arguments by coordinates: the adapters' matrices laid out with rank `r` of adapter `g` at `16 g + r`. -/
structure Args where
  x : Fin 256 → Fin 4096 → EReal
  dy : Fin 256 → Fin 14336 → EReal
  w : Fin 14336 → Fin 4096 → EReal
  ws : Fin 112 → Fin 32 → EReal
  a : Fin 128 → Fin 4096 → EReal
  b : Fin 14336 → Fin 128 → EReal
  idx : Fin 256 → Fin 2 → BitVec 32
  g : Fin 256 → Fin 2 → EReal

/-- The arguments by coordinates, from the programs' arrays. -/
def ofRaw (a0 : Vec Ideal ⟨2, ![256, 4096]⟩ .bf16) (a1 : Vec Ideal ⟨2, ![256, 14336]⟩ .bf16) (a2 : Vec Ideal ⟨2, ![14336, 4096]⟩ .fp8e4m3) (a3 : Vec Ideal ⟨2, ![112, 32]⟩ .f32)
    (a4 : Vec Ideal ⟨3, ![8, 16, 4096]⟩ .bf16) (a5 : Vec Ideal ⟨3, ![8, 14336, 16]⟩ .bf16) (a6 : Vec Ideal ⟨2, ![256, 2]⟩ .i32) (a7 : Vec Ideal ⟨2, ![256, 2]⟩ .f32) : Args where
  x t d := a0 (ix2 t d)
  dy t f := a1 (ix2 t f)
  w f d := a2 (ix2 f d)
  ws r n := a3 (ix2 r n)
  a c d := a4 (ix3 ⟨c.val / 16, by omega⟩ ⟨c.val % 16, by omega⟩ d)
  b f c := a5 (ix3 ⟨c.val / 16, by omega⟩ f ⟨c.val % 16, by omega⟩)
  idx t j := a6 (ix2 t j)
  g t j := a7 (ix2 t j)

variable (A : Args)

/-- The constant 2. -/
abbrev two : EReal := Ideal.ofBits .f32 1073741824#32

/-- The two projections. -/
def h (t : Fin 256) (c : Fin 128) : EReal := ∑ d : Fin 4096, A.x t d * A.a c d
def u (t : Fin 256) (c : Fin 128) : EReal := ∑ f : Fin 14336, A.dy t f * A.b f c

/-- Whether choice `j` of token `t` is the adapter of column `c`. -/
def hit (j : Fin 2) (t : Fin 256) (c : Fin 128) : Prop := A.idx t j = BitVec.ofNat 32 (c.val / 16)

instance (j : Fin 2) (t : Fin 256) (c : Fin 128) : Decidable (hit A j t c) := inferInstanceAs (Decidable (_ = _))

def gu (j : Fin 2) (t : Fin 256) (c : Fin 128) : EReal := if hit A j t c then A.g t j * u A t c else 0
def hj (j : Fin 2) (t : Fin 256) (c : Fin 128) : EReal := if hit A j t c then h A t c else 0

/-- The gradients of the gates and of the adapters' two matrices. -/
def dgate (j : Fin 2) (t : Fin 256) : EReal := two * ∑ c : Fin 128, if hit A j t c then u A t c * h A t c else 0
def dA (c : Fin 128) (d : Fin 4096) : EReal :=
  two * ((∑ t : Fin 256, gu A 0 t c * A.x t d) + ∑ t : Fin 256, gu A 1 t c * A.x t d)
def dB (c : Fin 128) (f : Fin 14336) : EReal :=
  two * ((∑ t : Fin 256, hj A 0 t c * (A.g t 0 * A.dy t f)) + ∑ t : Fin 256, hj A 1 t c * (A.g t 1 * A.dy t f))

/-- The largest magnitude of a row of `dy`, over 57344. -/
def quot (t : Fin 256) : EReal :=
  (Finset.univ.fold max (Ideal.ofBits .f32 4286578688#32) fun f : Fin 14336 => max (A.dy t f) (-A.dy t f)) * Ideal.ofBits .f32 932333861#32

/-- `2 ^ (k - 125)`. -/
abbrev pow (k : Fin 256) : EReal := FloatOps.exp2 (F := Ideal) (φ := .f32) (FloatOps.sitofp (F := Ideal) .f32 (IntOp.subi (BitVec.ofNat 32 k.val) 125#32))

/-- The least of those powers above a quotient, and 1 below the least normal number. -/
def scaleOf (p : EReal) : EReal :=
  if p < Ideal.ofBits .f32 8388608#32 then Ideal.ofBits .f32 1065353216#32
  else Finset.univ.fold min (Ideal.ofBits .f32 2139095040#32) fun k : Fin 256 => if p < pow k then pow k else Ideal.ofBits .f32 2139095040#32

def scale (t : Fin 256) : EReal := scaleOf (quot A t)

/-- `dy` over its scale, cut off at 57344. -/
def code (y inv : EReal) : EReal := min (Ideal.ofBits .f32 1197473792#32) (max (Ideal.ofBits .f32 3344957440#32) (y * inv))
def codes (t : Fin 256) (f : Fin 14336) : EReal := code (A.dy t f) (Ideal.div (Ideal.ofBits .f32 1065353216#32) (scale A t))

/-- The weight with its 128 × 128 blocks scaled. -/
def wd (f : Fin 14336) (d : Fin 4096) : EReal := A.w f d * A.ws ⟨f.val / 128, by omega⟩ ⟨d.val / 128, by omega⟩

/-- The gradient of `x`. -/
def dx (t : Fin 256) (d : Fin 4096) : EReal :=
  (∑ f : Fin 14336, codes A t f * wd A f d) * scale A t
    + two * ((∑ c : Fin 128, gu A 0 t c * A.a c d) + ∑ c : Fin 128, gu A 1 t c * A.a c d)

end Cert.Spec

end
-- ==== Proof.Value.Struct.lean ====
/- The values the body computes, written as functions of what it loads: the 32 × 14 blocks of the weight as one family, the
   112 block columns of `dy` as one running maximum. -/
module

public import proofs.«01_k».proof.Proof.Run.Frame
public import Idealize.ShloMosaic.Lib.WholeRead
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- A block of the weight's codes times its scale. -/
def blk (s : Elt F .f32) (w : Vec F S128x128 .fp8e4m3) : FVec F S128x128 .bf16 := k0_pay52 s w

/-- Fourteen blocks, one below the other. -/
def col (f : Fin 14 → FVec F S128x128 .bf16) : FVec F S1792x128 .bf16 :=
  concatenate S1792x128 0 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩, ⟨S128x128, f 8⟩, ⟨S128x128, f 9⟩, ⟨S128x128, f 10⟩, ⟨S128x128, f 11⟩, ⟨S128x128, f 12⟩, ⟨S128x128, f 13⟩] concatenates_S128x128_S128x128_S128x128_S128x128_S128x128_S128x128_S128x128_S128x128_S128x128_S128x128_S128x128_S128x128_S128x128_S128x128_S1792x128_d0

/-- Four columns of blocks, side by side. -/
def tile (f : Fin 4 → FVec F S1792x128 .bf16) : FVec F S1792x512 .bf16 :=
  concatenate S1792x512 1 [⟨S1792x128, f 0⟩, ⟨S1792x128, f 1⟩, ⟨S1792x128, f 2⟩, ⟨S1792x128, f 3⟩] concatenates_S1792x128_S1792x128_S1792x128_S1792x128_S1792x512_d1

/-- One accumulation: the old columns plus the codes times a tile of the weight. -/
def accStep (cb : FVec F S256x1792 .bf16) (w : FVec F S1792x512 .bf16) (a : Vec F S256x512 .f32) : FVec F S256x512 .f32 :=
  shapeCast S256x512 (addf a (matmul dot_S256x1792_S1792x512_S256x512_1_0_0_1_n_n none cb w (constant S256x512 .f32 0x00000000#32)))
    shapeCasts_S256x512_S256x512

/-- The columns of tile `j`. -/
abbrev accRect (j : Fin 8) : Rect S256x4096 :=
  Rect.unit ![0, 512 * j.val] S256x512.size (by
    intro a; revert j; revert a; decide)

/-- Where block row `q` of block column `n` lies in the block of weight codes. -/
abbrev wRect (n : Fin 32) (q : Fin 14) : Rect S1792x4096 :=
  Rect.unit ![128 * q.val, 128 * n.val] S128x128.size (by
    intro a
    have hn := n.isLt; have hq := q.isLt
    match a with
    | ⟨0, _⟩ => show 128 * q.val + 128 ≤ 1792; omega
    | ⟨1, _⟩ => show 128 * n.val + 128 ≤ 4096; omega)

/-- Where the scale of block row `q`, block column `n` lies in the array of scales at point `i`. -/
def offS (i : grid0.Coords) (n : Fin 32) (q : Fin 14) : Fin 2 → Nat :=
  ![n.val, (Scalar.indexCast (Scalar.addi (Scalar.muli (BitVec.ofNat 32 (i 0).val) 14#32) (BitVec.ofNat 32 q.val))).toNat]

theorem offS_eq (i : grid0.Coords) (n : Fin 32) (q : Fin 14) : offS i n q = ![n.val, 14 * (i 0).val + q.val] := by
  have h : ∀ (k : Fin 8) (q : Fin 14), (Scalar.indexCast (Scalar.addi (Scalar.muli (BitVec.ofNat 32 k.val) 14#32) (BitVec.ofNat 32 q.val))).toNat
      = 14 * k.val + q.val := by decide +kernel
  unfold offS; rw [h (i 0) q]

abbrev sRect (i : grid0.Coords) (n : Fin 32) (q : Fin 14) : Rect S32x112 :=
  Rect.unit (offS i n q) S1x1.size (by
    intro a
    rw [offS_eq]
    have hn := n.isLt; have hq := q.isLt
    have hi : (i 0).val < 8 := (i 0).isLt
    match a with
    | ⟨0, _⟩ => show n.val + 1 ≤ 32; omega
    | ⟨1, _⟩ => show 14 * (i 0).val + q.val + 1 ≤ 112; omega)

/-- Column `4 j + p`. -/
abbrev colOf (j : Fin 8) (p : Fin 4) : Fin 32 := ⟨4 * j.val + p.val, by omega⟩

/-- The weight's tile `j`, from the scales and the codes of its blocks. -/
def wTile (i : grid0.Coords) (s : (n : Fin 32) → (q : Fin 14) → (sRect i n q).shape.Idx → Elt F .f32)
    (w : (n : Fin 32) → (q : Fin 14) → (wRect n q).shape.Idx → Elt F .fp8e4m3) (j : Fin 8) : FVec F S1792x512 .bf16 :=
  tile fun p => col fun q => blk (s (colOf j p) q (Shape.Idx.first (show 0 < S1x1.numel by decide))) (w (colOf j p) q)

/-- The accumulator's stores, last first. -/
def accPieces (cb : FVec F S256x1792 .bf16) (w : Fin 8 → FVec F S1792x512 .bf16) (a : Fin 8 → Vec F S256x512 .f32) : List (View.Piece (Elt F) S256x4096 .f32) :=
  [⟨accRect 7, accStep cb (w 7) (a 7)⟩, ⟨accRect 6, accStep cb (w 6) (a 6)⟩, ⟨accRect 5, accStep cb (w 5) (a 5)⟩, ⟨accRect 4, accStep cb (w 4) (a 4)⟩, ⟨accRect 3, accStep cb (w 3) (a 3)⟩, ⟨accRect 2, accStep cb (w 2) (a 2)⟩, ⟨accRect 1, accStep cb (w 1) (a 1)⟩, ⟨accRect 0, accStep cb (w 0) (a 0)⟩]

/-- The same stores over a zeroed accumulator, each reading what the ones before it left. -/
def accZ (v : View sig .tc .vmem S256x4096 .f32) (cb : FVec F S256x1792 .bf16) (w : Fin 8 → FVec F S1792x512 .bf16) :
    (n : ℕ) → n ≤ 8 → List (View.Piece (Elt F) S256x4096 .f32)
  | 0, _ => [⟨Rect.unit ![0, 0] S256x4096.size inb_S256x4096_S256x4096_0_0, k0_pay44⟩]
  | n + 1, h => ⟨accRect ⟨n, h⟩, accStep cb (w ⟨n, h⟩) (v.readCov (accZ v cb w n (Nat.le_of_succ_le h)) (accRect ⟨n, h⟩).toLoadRect)⟩
      :: accZ v cb w n (Nat.le_of_succ_le h)

/-- The columns of `dy` a point reads. -/
abbrev dyRect (i : grid0.Coords) : Rect S256x14336 := Rect.unit (k0_off1 i) S256x1792.size (k0_off1_inb i)

/-- Block column `n` of `dy`. -/
abbrev dyCol (n : Fin 112) : Rect S256x14336 :=
  Rect.unit ![0, 128 * n.val] S256x128.size (by
    intro a
    have hn := n.isLt
    match a with
    | ⟨0, _⟩ => show 0 + 256 ≤ 256; omega
    | ⟨1, _⟩ => show 128 * n.val + 128 ≤ 14336; omega)

/-- The largest magnitudes of the block columns up to `n`. -/
def amax (f : (n : Fin 112) → (dyCol n).shape.Idx → Elt F .bf16) : (n : ℕ) → n < 112 → FVec F S256x128 .bf16
  | 0, h => absf (f ⟨0, h⟩)
  | n + 1, h => maximumf (amax f n (Nat.lt_of_succ_lt h)) (absf (f ⟨n + 1, h⟩))

/-- The exponent field of the row maximum over 57344, counted from the powers at or below it. -/
def bexp (m : FVec F S256x128 .bf16) : IVec S256x1 32 :=
  have p : FVec F S256x1 .f32 := mulf (shapeCast S256x1 (multiReduction .maximumf [1] S256 (extf .f32 m bitsLt_bf16_f32) 0xFF800000#32 reduces_S256x128_S256 (.inl rfl) rfl) shapeCasts_S256_S256x1)
    (broadcast S256x1 (Scalar.ofBits .f32 0x37924925#32))
  have pw : FVec F S1x256 .f32 := bitcastToFloat .f32 (shli (iota .tc S1x256 32 [1] iota_S1x256_d1_w32) (broadcast S1x256 23#32))
  subi (shapeCast S256x1 (multiReductionI .add [1] S256 (select (cmpf .olt (broadcastTo S256x256 p broadcasts_S256x1_S256x256) (broadcastTo S256x256 pw broadcasts_S1x256_S256x256)) (broadcast S256x256 0#32) (broadcast S256x256 1#32)) 0#32 reduces_S256x256_S256 rfl) shapeCasts_S256_S256x1) (broadcast S256x1 1#32)

/-- Whether that field is zero, and the exponent when it is not. -/
def isZ (b : IVec S256x1 32) : IVec S256x1 1 := cmpi .eq b (broadcast S256x1 0#32)
def expo (b : IVec S256x1 32) : IVec S256x1 32 := subi b (broadcast S256x1 126#32)

/-- Row `j` of the routing and of the gates; the two halves of `hm`; columns 0 and 1 of the gates' transpose. -/
abbrev rowRect (j : Fin 2) : Rect S2x256 := Rect.unit ![j.val, 0] S1x256.size (by
  intro a; revert j; revert a; decide)
abbrev hmRect (j : Fin 2) : Rect S128x512 := Rect.unit ![0, 256 * j.val] S128x256.size (by
  intro a; revert j; revert a; decide)
abbrev gRect (j : Fin 2) : Rect S256x8 := Rect.unit ![0, j.val] S256x1.size (by
  intro a; revert j; revert a; decide)
abbrev aRect (j : Fin 8) : Rect S128x4096 := Rect.unit ![0, 512 * j.val] S128x512.size (by
  intro a; revert j; revert a; decide)

/-- The adapters' numbers down the rows. -/
def iot : IVec S8x256 32 := iota .tc S8x256 32 [0] iota_S8x256_d0_w32

/-- The gradient of `B` over a point's columns. -/
def dbOf (dyk : FVec F S256x1792 .bf16) (g0 g1 : Vec F S256x1 .f32) (hm : Vec F S128x512 .bf16) : FVec F S128x1792 .f32 :=
  k0_pay51 (k0_pay48 dyk) (k0_pay49 dyk g0) (k0_pay50 g1) hm

/-- The two routed and gated halves of `u`, side by side and one below the other transposed. -/
def daOf (g0 g1 : FVec F S128x256 .bf16) (x : Vec F S256x4096 .bf16) : FVec F S128x4096 .f32 :=
  mulf (broadcast S128x4096 (Scalar.ofBits .f32 0x40000000#32)) (matmul dot_S128x512_S512x4096_S128x4096_1_0_0_1_n_n none
    (concatenate S128x512 1 [⟨S128x256, g0⟩, ⟨S128x256, g1⟩] concatenates_S128x256_S128x256_S128x512_d1)
    (concatenate S512x4096 0 [⟨S256x4096, x⟩, ⟨S256x4096, x⟩] concatenates_S256x4096_S256x4096_S512x4096_d0) (constant S128x4096 .f32 0x00000000#32))
def guOf (g0 g1 : FVec F S128x256 .bf16) : FVec F S256x256 .bf16 :=
  truncf .bf16 (transpose S256x256 [1, 0] (extf .f32 (concatenate S256x256 0 [⟨S128x256, g0⟩, ⟨S128x256, g1⟩] concatenates_S128x256_S128x256_S256x256_d0) bitsLt_bf16_f32) transposes_S256x256_p1_0_S256x256) bitsLt_bf16_f32

/-- A tile of the gradient of `x`. -/
def dxTile (gu : FVec F S256x256 .bf16) (sc : Vec F S256x128 .f32) (a : Vec F S128x512 .bf16) (acc : Vec F S256x512 .f32) : FVec F S256x512 .bf16 :=
  k0_pay41 gu sc a acc

def dxPieces (gu : FVec F S256x256 .bf16) (sc : Vec F S256x128 .f32) (a : Fin 8 → Vec F S128x512 .bf16) (acc : Fin 8 → Vec F S256x512 .f32) : List (View.Piece (Elt F) S256x4096 .bf16) :=
  [⟨accRect 7, dxTile gu sc (a 7) (acc 7)⟩, ⟨accRect 6, dxTile gu sc (a 6) (acc 6)⟩, ⟨accRect 5, dxTile gu sc (a 5) (acc 5)⟩, ⟨accRect 4, dxTile gu sc (a 4) (acc 4)⟩, ⟨accRect 3, dxTile gu sc (a 3) (acc 3)⟩, ⟨accRect 2, dxTile gu sc (a 2) (acc 2)⟩, ⟨accRect 1, dxTile gu sc (a 1) (acc 1)⟩, ⟨accRect 0, dxTile gu sc (a 0) (acc 0)⟩]

/-- A load of a whole memory. -/
abbrev rd {sp : Space} {s : Shape} {e : EltTy} (M : Memref sig .tc sp s e) (h : M.IsWhole) (X : Vec F s e) (R : Rect s) : R.shape.Idx → Elt F e :=
  View.readAt (Elt F) M.view R.toLoadRect (h.unread X)

theorem rd_eq {sp : Space} {s : Shape} {e : EltTy} (M : Memref sig .tc sp s e) (h : M.IsWhole) (X : Vec F s e) (R : Rect s) :
    View.readAt (Elt F) M.view R.toLoadRect (h.unread X) = View.ld X R :=
  funext fun x => h.readAt_unread X R.toLoadRect x

theorem z2 : (![0, 0] : Fin 2 → ℕ) = fun _ => 0 := by funext a; fin_cases a <;> rfl

/-- A load of the whole of a rank-2 vector. -/
theorem ld_whole {S : Shape} {e : EltTy} (X : S.Idx → Elt F e) {off : Fin S.rank → ℕ} (h : off = fun _ => 0) (inb) :
    View.ld X (Rect.unit (s := S) off S.size inb) = X := View.ld_unit_zero h inb X

end Cert.KernelIdeal.Hand

end
-- ==== Proof.Value.PayK.lean ====
/- The kernel's values at the extended reals, element by element. -/
module

public import proofs.«01_k».proof.Proof.Value.Spec
public import proofs.«01_k».proof.Proof.Value.Struct
public import Idealize.ShloMosaic.Lib.Pipeline.ValueKit.Point

@[expose] public section

set_option maxRecDepth 16384

noncomputable section

namespace Cert.KernelIdeal.Hand

open Cert.KernelIdeal.Gen
open Idealize.ShloMosaic Idealize.ShloMosaic.TcCoe Idealize.ShloMosaic.Tactic

theorem sel_eq {α : Type} (a b : BitVec 32) (x y : α) : Scalar.select (IntOp.cmpi .eq a b) x y = if a = b then x else y := by
  by_cases h : a = b
  · subst h; simp [Scalar.select, IntOp.cmpi]
  · have e : (a == b) = false := by simp [h]
    simp [Scalar.select, IntOp.cmpi, h, e]

theorem accStep_at (cb : FVec Ideal S256x1792 .bf16) (w : FVec Ideal S1792x512 .bf16) (a : Vec Ideal S256x512 .f32) (t : Fin 256) (e : Fin 512) :
    accStep cb w a (ix2 t e) = a (ix2 t e) + ∑ q : Fin 1792, cb (ix2 t q) * w (ix2 q e) := by
  pointwise [accStep]

theorem blk_at (s : Elt Ideal .f32) (w : Vec Ideal S128x128 .fp8e4m3) (q p : Fin 128) : blk s w (ix2 q p) = w (ix2 q p) * s := by
  pointwise [blk, k0_pay52]

theorem pay47_at (d : Vec Ideal S256x1792 .bf16) (u : Vec Ideal S128x256 .f32) (b : Vec Ideal S128x1792 .bf16) (g : Fin 128) (t : Fin 256) :
    k0_pay47 d u b (ix2 g t) = u (ix2 g t) + ∑ q : Fin 1792, b (ix2 g q) * d (ix2 t q) := by
  pointwise [k0_pay47]

theorem pay4_at (a : Vec Ideal S128x4096 .bf16) (x : Vec Ideal S256x4096 .bf16) (g : Fin 128) (t : Fin 256) :
    k0_pay4 a x (ix2 g t) = ∑ d : Fin 4096, a (ix2 g d) * x (ix2 t d) := by
  pointwise [k0_pay4, k0_pay3]

theorem dbOf_at (d : FVec Ideal S256x1792 .bf16) (g0 g1 : Vec Ideal S256x1 .f32) (hm : Vec Ideal S128x512 .bf16) (g : Fin 128) (q : Fin 1792) :
    dbOf d g0 g1 hm (ix2 g q) = Spec.two * ((∑ x : Fin 256, hm (ix2 g ⟨x.val, by omega⟩) * (g0 (ix2 x 0) * d (ix2 x q))) + ∑ x : Fin 256, hm (ix2 g ⟨256 + x.val, by omega⟩) * (g1 (ix2 x 0) * d (ix2 x q))) := by
  pointwise [dbOf, k0_pay51, k0_pay48, k0_pay49, k0_pay50]

theorem ind_at (a b : BitVec 32) : (FloatOps.sitofp (F := Ideal) .f32 (BitVec.setWidth 32 (IntOp.cmpi .eq a b)) : EReal) = if b = a then 1 else 0 := by
  by_cases h : a = b
  · subst h
    have e : BitVec.setWidth 32 (IntOp.cmpi .eq a a) = 1#32 := by simp [IntOp.cmpi]
    rw [e, if_pos rfl]
    show ((((1#32 : BitVec 32).toInt : ℤ) : ℝ) : EReal) = 1
    norm_num
  · have e : BitVec.setWidth 32 (IntOp.cmpi .eq a b) = 0#32 := by
      have e' : (a == b) = false := by simp [h]
      simp [IntOp.cmpi, e', h]
    rw [e, if_neg fun x => h x.symm]
    show ((((0#32 : BitVec 32).toInt : ℤ) : ℝ) : EReal) = 0
    norm_num

theorem pay5_at (a : Vec Ideal S128x4096 .bf16) (x : Vec Ideal S256x4096 .bf16) (r : Vec Ideal S1x256 .i32) (g : Fin 128) (t : Fin 256) :
    k0_pay5 iot a x r (ix2 g t) = if r (ix2 0 t) = BitVec.ofNat 32 (g.val / 16) then ∑ d : Fin 4096, a (ix2 g d) * x (ix2 t d) else (0 : EReal) := by
  have e : k0_pay5 iot a x r (ix2 g t) = (∑ d : Fin 4096, a (ix2 g d) * x (ix2 t d) : EReal) * FloatOps.sitofp (F := Ideal) .f32 (BitVec.setWidth 32 (IntOp.cmpi .eq (BitVec.ofNat 32 (g.val / 16)) (r (ix2 0 t)))) := by
    pointwise [k0_pay5, k0_pay3, iot]
  rw [e, ind_at]
  split_ifs
  · exact mul_one _
  · exact mul_zero _

theorem gcol_at (x : Vec Ideal S2x256 .f32) (t : Fin 256) (q : Fin 8) :
    k0_pay8 (k0_pay7 x) (Scalar.ofBits .f32 0x00000000#32) (ix2 t q) = if h : q.val < 2 then x (ix2 ⟨q.val, h⟩ t) else 0 := by
  pointwise [k0_pay8, k0_pay7]

theorem pay29_at (u h : Vec Ideal S128x256 .f32) (r : Vec Ideal S1x256 .i32) (t : Fin 256) :
    k0_pay29 iot u h r (ix2 0 t) = Spec.two * ∑ c : Fin 128, if r (ix2 0 t) = BitVec.ofNat 32 (c.val / 16) then (u (ix2 c t) * h (ix2 c t) : EReal) else 0 := by
  have e : k0_pay29 iot u h r (ix2 0 t) = Spec.two * ∑ x : Fin 8, Scalar.select (IntOp.cmpi .eq (BitVec.ofNat 32 x.val) (r (ix2 0 t)))
      (∑ y : Fin 16, u (ix2 ⟨x.val * 16 + y.val, by omega⟩ t) * h (ix2 ⟨x.val * 16 + y.val, by omega⟩ t)) (0 : EReal) := by
    pointwise [k0_pay29, k0_pay28, k0_pay27, iot]
  rw [e]
  congr 1
  rw [Fin.sum_univ_tiles 8 16 (by norm_num) (fun c : Fin 128 => if r (ix2 0 t) = BitVec.ofNat 32 (c.val / 16) then (u (ix2 c t) * h (ix2 c t) : EReal) else 0)]
  refine Finset.sum_congr rfl fun x _ => ?_
  rw [sel_eq]
  by_cases hx : BitVec.ofNat 32 x.val = r (ix2 0 t)
  · rw [if_pos hx]
    refine Finset.sum_congr rfl fun y _ => ?_
    rw [if_pos (by rw [← hx]; congr 1; show x.val = (x.val * 16 + y.val) / 16; omega)]
  · rw [if_neg hx]
    refine (Finset.sum_eq_zero fun y _ => ?_).symm
    rw [if_neg fun k => hx (by rw [k]; congr 1; show x.val = (x.val * 16 + y.val) / 16; omega)]

theorem pay30_at (u : Vec Ideal S128x256 .f32) (r : Vec Ideal S1x256 .i32) (g : Vec Ideal S1x256 .f32) (c : Fin 128) (t : Fin 256) :
    k0_pay30 iot u r g (ix2 c t) = if r (ix2 0 t) = BitVec.ofNat 32 (c.val / 16) then (g (ix2 0 t) * u (ix2 c t) : EReal) else 0 := by
  have e : k0_pay30 iot u r g (ix2 c t) = Scalar.select (IntOp.cmpi .eq (BitVec.ofNat 32 (c.val / 16)) (r (ix2 0 t))) (u (ix2 c t) * g (ix2 0 t)) (0 : EReal) := by
    pointwise [k0_pay30, k0_pay28, iot]
  rw [e, sel_eq, mul_comm]
  congr 1
  exact propext eq_comm

theorem daOf_at (g0 g1 : FVec Ideal S128x256 .bf16) (x : Vec Ideal S256x4096 .bf16) (c : Fin 128) (d : Fin 4096) :
    daOf g0 g1 x (ix2 c d) = Spec.two * ((∑ t : Fin 256, g0 (ix2 c t) * x (ix2 t d)) + ∑ t : Fin 256, g1 (ix2 c t) * x (ix2 t d)) := by
  pointwise [daOf]

theorem guOf_at (g0 g1 : FVec Ideal S128x256 .bf16) (t : Fin 256) (c : Fin 256) :
    guOf g0 g1 (ix2 t c) = if h : c.val < 128 then g0 (ix2 ⟨c.val, h⟩ t) else g1 (ix2 ⟨c.val - 128, by omega⟩ t) := by
  pointwise [guOf]

theorem dxTile_at (gu : FVec Ideal S256x256 .bf16) (sc : Vec Ideal S256x128 .f32) (a : Vec Ideal S128x512 .bf16) (acc : Vec Ideal S256x512 .f32) (s : EReal) (c : Fin 256) (t : Fin 512)
    (hs : ∀ l : Fin 128, sc (ix2 c l) = s) :
    dxTile gu sc a acc (ix2 c t) = acc (ix2 c t) * s + Spec.two * ((∑ x : Fin 128, gu (ix2 c ⟨x.val, by omega⟩) * a (ix2 x t)) + ∑ x : Fin 128, gu (ix2 c ⟨128 + x.val, by omega⟩) * a (ix2 x t)) := by
  pointwise [dxTile, k0_pay41]
  simp only [hs, dite_eq_ite, ite_self]

theorem pay23_at (z : IVec S256x1 1) (e : IVec S256x1 32) (t : Fin 256) (l : Fin 128) :
    (k0_pay23 z e : FVec Ideal S256x128 .f32) (ix2 t l) = Ideal.ofBits .f32 (IntOp.shli .vector (IntOp.addi (Scalar.select (z (ix2 t 0)) 0#32 (e (ix2 t 0))) 127#32) 23#32) := by
  pointwise [k0_pay23, k0_pay22, k0_pay21]

theorem pay24_at (z : IVec S256x1 1) (e : IVec S256x1 32) (t : Fin 256) (l : Fin 128) :
    (k0_pay24 z e : FVec Ideal S256x128 .bf16) (ix2 t l) = Ideal.ofBits .f32 (IntOp.shli .vector (IntOp.subi 127#32 (Scalar.select (z (ix2 t 0)) 0#32 (e (ix2 t 0)))) 23#32) := by
  pointwise [k0_pay24, k0_pay21]

theorem pay25_at (z : IVec S256x1 1) (e : IVec S256x1 32) (t : Fin 256) :
    (k0_pay25 z e : FVec Ideal S1x256 .f32) (ix2 0 t) = Ideal.ofBits .f32 (IntOp.shli .vector (IntOp.addi (Scalar.select (z (ix2 t 0)) 0#32 (e (ix2 t 0))) 127#32) 23#32) := by
  pointwise [k0_pay25, k0_pay22, k0_pay21]

theorem bexp_at (x : FVec Ideal S256x128 .bf16) (t : Fin 256) :
    bexp x (ix2 t 0) = IntOp.subi (Finset.fold IntOp.addi 0#32 (fun k : Fin 256 =>
      if (Finset.fold max (Ideal.ofBits .f32 4286578688#32) (fun l : Fin 128 => (x (ix2 t l) : EReal)) Finset.univ * Ideal.ofBits .f32 932333861#32 : EReal)
        < Ideal.ofBits .f32 (IntOp.shli .vector (BitVec.ofNat 32 k.val) 23#32) then 0#32 else 1#32) Finset.univ) 1#32 := by
  pointwise [bexp]

/-- The inverse scale repeated across the columns of the codes. -/
def lanes (v : Vec Ideal S256x128 .bf16) : FVec Ideal S256x1792 .bf16 :=
  concatenate S256x1792 1 [⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩, ⟨S256x128, v⟩] concatenates_S256x128_S256x128_S256x128_S256x128_S256x128_S256x128_S256x128_S256x128_S256x128_S256x128_S256x128_S256x128_S256x128_S256x128_S256x1792_d1

theorem lanes_at (v : Vec Ideal S256x128 .bf16) (t : Fin 256) (q : Fin 1792) : lanes v (ix2 t q) = v (ix2 t ⟨q.val % 128, by omega⟩) :=
  concatenate_ofFn_apply (t := S256x1792) (s₁ := S256x128) (1 : Fin 2) (N := 14) (fun _ => v) _ rfl 128 rfl (ix2 t q) ⟨q.val / 128, by omega⟩ rfl
    (ix2 t ⟨q.val % 128, by omega⟩) rfl (fun b hb => by
      match b with
      | ⟨0, _⟩ => rfl
      | ⟨1, _⟩ => exact absurd rfl hb)

theorem pay45_at (dy : Vec Ideal S256x1792 .bf16) (v : Vec Ideal S256x128 .bf16) (t : Fin 256) (q : Fin 1792) :
    k0_pay45 dy v (ix2 t q) = Spec.code (dy (ix2 t q)) (v (ix2 t ⟨q.val % 128, by omega⟩)) := by
  have e : k0_pay45 dy v (ix2 t q) = Spec.code (dy (ix2 t q)) (lanes v (ix2 t q)) := rfl
  rw [e, lanes_at]

theorem pay46_eq (dy : Vec Ideal S256x1792 .bf16) (v : Vec Ideal S256x128 .bf16) : k0_pay46 dy v = k0_pay45 dy v := rfl

theorem col_at (f : Fin 14 → FVec Ideal S128x128 .bf16) (q : Fin 1792) (p : Fin 128) :
    col f (ix2 q p) = f ⟨q.val / 128, by omega⟩ (ix2 ⟨q.val % 128, by omega⟩ p) :=
  concatenate_ofFn_apply (t := S1792x128) (s₁ := S128x128) (0 : Fin 2) (N := 14) f _ rfl 128 rfl (ix2 q p) ⟨q.val / 128, by omega⟩ rfl
    (ix2 ⟨q.val % 128, by omega⟩ p) rfl (fun b hb => by
      match b with
      | ⟨0, _⟩ => exact absurd rfl hb
      | ⟨1, _⟩ => rfl)

theorem tile_at (f : Fin 4 → FVec Ideal S1792x128 .bf16) (q : Fin 1792) (d : Fin 512) :
    tile f (ix2 q d) = f ⟨d.val / 128, by omega⟩ (ix2 q ⟨d.val % 128, by omega⟩) :=
  concatenate_ofFn_apply (t := S1792x512) (s₁ := S1792x128) (1 : Fin 2) (N := 4) f _ rfl 128 rfl (ix2 q d) ⟨d.val / 128, by omega⟩ rfl
    (ix2 q ⟨d.val % 128, by omega⟩) rfl (fun b hb => by
      match b with
      | ⟨0, _⟩ => rfl
      | ⟨1, _⟩ => exact absurd rfl hb)

theorem wTile_at (i : grid0.Coords) (x3 : Vec Ideal S32x112 .f32) (x2 : Vec Ideal S1792x4096 .fp8e4m3) (j : Fin 8) (q : Fin 1792) (d : Fin 512) (hi : (i 0).val < 8) :
    wTile i (fun n q => View.ld x3 (sRect i n q)) (fun n q => View.ld x2 (wRect n q)) j (ix2 q d)
      = x2 (ix2 q ⟨512 * j.val + d.val, by omega⟩) * x3 (ix2 ⟨4 * j.val + d.val / 128, by omega⟩ ⟨14 * (i 0).val + q.val / 128, by omega⟩) := by
  unfold wTile
  rw [tile_at, col_at, blk_at]
  congr 1
  · refine View.ld_unit_apply_of x2 _ _ _ _ _ fun a => ?_
    match a with
    | ⟨0, _⟩ => show q.val = 128 * (q.val / 128) + q.val % 128; omega
    | ⟨1, _⟩ => show 512 * j.val + d.val = 128 * (4 * j.val + d.val / 128) + d.val % 128; omega
  · refine View.ld_unit_apply_of x3 _ _ _ _ _ fun a => ?_
    refine Eq.trans ?_ (congrArg (· + _) (congrFun (offS_eq i _ _).symm a))
    match a with
    | ⟨0, _⟩ => rfl
    | ⟨1, _⟩ => rfl

end Cert.KernelIdeal.Hand

end
-- ==== Proof.Value.Scale.lean ====
/- The scale of a row: the number of powers of two at or below a quotient, read as an exponent field, gives the least
   power of two above the quotient. -/
module

public import proofs.«01_k».proof.Proof.Value.Spec
public import Idealize.ShloMosaic.Lib.IdealHost
public import Idealize.ShloMosaic.Lib.IndicatorCount

@[expose] public section

set_option maxRecDepth 16384

noncomputable section

namespace Cert.Spec

open Idealize.ShloMosaic

/-- The number whose exponent field is `k` and whose fraction is zero. -/
abbrev q (k : ℕ) : EReal := Ideal.ofBits .f32 (IntOp.shli .vector (BitVec.ofNat 32 k) 23#32)

theorem field : ∀ k : Fin 256, ((IntOp.shli .vector (BitVec.ofNat 32 k.val) 23#32 : BitVec 32).extractLsb' 23 8).toNat = k.val
    ∧ ((IntOp.shli .vector (BitVec.ofNat 32 k.val) 23#32 : BitVec 32).extractLsb' 0 23).toNat = 0
    ∧ (((IntOp.shli .vector (BitVec.ofNat 32 k.val) 23#32 : BitVec 32).extractLsb' 31 1) == 1#1) = false := by decide +kernel

theorem q_zero : q 0 = 0 := Ideal.ofBits_zero_f32

theorem ieee_norm (b : BitVec 32) (k : ℕ) (e1 : (b.extractLsb' 23 8).toNat = k) (e2 : (b.extractLsb' 0 23).toNat = 0) (e3 : (b.extractLsb' 31 1 == 1#1) = false)
    (h1 : 1 ≤ k) (h2 : k ≤ 254) : Ideal.ieee 8 23 b = (((2 : ℝ) ^ ((k : ℤ) - 127) : ℝ) : EReal) := by
  unfold Ideal.ieee
  simp only [e1, e2, e3]
  rw [if_neg (by omega), if_neg (by omega)]
  refine congrArg _ ?_
  simp only [Bool.false_eq_true, if_false, one_mul, add_zero]
  rw [show ((2 ^ 23 : ℕ) : ℝ) = (2 : ℝ) ^ (23 : ℤ) by norm_num, ← zpow_add₀ (by norm_num)]
  refine congrArg _ ?_
  norm_num

theorem ieee_top (b : BitVec 32) (e1 : (b.extractLsb' 23 8).toNat = 255) (e2 : (b.extractLsb' 0 23).toNat = 0) (e3 : (b.extractLsb' 31 1 == 1#1) = false) :
    Ideal.ieee 8 23 b = ⊤ := by
  unfold Ideal.ieee
  simp only [e1, e2, e3]
  norm_num

theorem q_mid (k : ℕ) (h1 : 1 ≤ k) (h2 : k ≤ 254) : q k = (((2 : ℝ) ^ ((k : ℤ) - 127) : ℝ) : EReal) :=
  ieee_norm _ k (field ⟨k, by omega⟩).1 (field ⟨k, by omega⟩).2.1 (field ⟨k, by omega⟩).2.2 h1 h2

theorem q_top : q 255 = ⊤ := by
  have h := field ⟨255, by decide⟩
  exact ieee_top _ h.1 h.2.1 h.2.2

theorem q_mono {j k : ℕ} (h : j ≤ k) (hk : k ≤ 255) : q j ≤ q k := by
  rcases Nat.eq_zero_or_pos j with rfl | hj
  · rw [q_zero]
    rcases Nat.eq_zero_or_pos k with rfl | hk0
    · rw [q_zero]
    rcases eq_or_lt_of_le hk with rfl | hk'
    · rw [q_top]; exact le_top
    · rw [q_mid k hk0 (by omega)]
      exact EReal.coe_nonneg.mpr (zpow_pos (by norm_num) _).le
  · rcases eq_or_lt_of_le hk with rfl | hk'
    · rw [q_top]; exact le_top
    · rw [q_mid j hj (by omega), q_mid k (by omega) (by omega)]
      exact EReal.coe_le_coe_iff.mpr <| zpow_le_zpow_right₀ (by norm_num : (1:ℝ) ≤ 2) (by omega)

theorem pow_q (i : ℕ) (h : i ≤ 252) : pow ⟨i, by omega⟩ = q (i + 2) := by
  rw [q_mid (i + 2) (by omega) (by omega)]
  have e : ∀ i : Fin 256, (IntOp.subi (BitVec.ofNat 32 i.val) 125#32 : BitVec 32).toInt = (i.val : ℤ) - 125 := by decide +kernel
  show Ideal.exp2 ((((IntOp.subi (BitVec.ofNat 32 i) 125#32 : BitVec 32).toInt : ℤ) : ℝ) : EReal) = _
  rw [e ⟨i, by omega⟩, Ideal.exp2_coe]
  refine congrArg _ ?_
  rw [Real.rpow_eq_pow, Real.rpow_intCast]
  congr 1
  push_cast
  ring

theorem pow_all (i : Fin 256) : pow i = (((2 : ℝ) ^ ((i.val : ℤ) - 125) : ℝ) : EReal) := by
  have e : ∀ i : Fin 256, (IntOp.subi (BitVec.ofNat 32 i.val) 125#32 : BitVec 32).toInt = (i.val : ℤ) - 125 := by decide +kernel
  show Ideal.exp2 ((((IntOp.subi (BitVec.ofNat 32 i.val) 125#32 : BitVec 32).toInt : ℤ) : ℝ) : EReal) = _
  rw [e i, Ideal.exp2_coe]
  refine congrArg _ ?_
  rw [Real.rpow_eq_pow, Real.rpow_intCast]

theorem card_below : ∀ k : Fin 257, (Finset.univ.filter fun i : Fin 256 => i.val < k.val).card = k.val := by decide +kernel

/-- The count of the powers at or below `p`, less one. -/
abbrev below (p : EReal) : BitVec 32 :=
  IntOp.subi (Finset.fold IntOp.addi 0#32 (fun k : Fin 256 => if p < q k.val then 0#32 else 1#32) Finset.univ) 1#32

theorem below_eq (p : EReal) (k : ℕ) (hk : k ≤ 256) (h : ∀ i : Fin 256, p < q i.val ↔ k ≤ i.val) : below p = IntOp.subi (BitVec.ofNat 32 k) 1#32 := by
  unfold below
  refine congrArg (fun z => IntOp.subi z 1#32) ?_
  have e : (fun i : Fin 256 => if p < q i.val then 0#32 else 1#32) = fun i : Fin 256 => (if k ≤ i.val then 0#1 else 1#1).setWidth 32 := by
    funext i
    by_cases hi : k ≤ i.val
    · rw [if_pos ((h i).mpr hi), if_pos hi]; rfl
    · rw [if_neg (fun x => hi ((h i).mp x)), if_neg hi]; rfl
  rw [e, IndicatorCount.fold_addi_setWidth_eq_card]
  refine congrArg _ ?_
  refine Eq.trans (congrArg Finset.card ?_) (card_below ⟨k, by omega⟩)
  ext i
  by_cases hi : k ≤ i.val <;> simp [hi]

/-- The scale and its inverse from the exponent field. -/
abbrev kScale (b : BitVec 32) : EReal :=
  Ideal.ofBits .f32 (IntOp.shli .vector (IntOp.addi (Scalar.select (IntOp.cmpi .eq b 0#32) 0#32 (IntOp.subi b 126#32)) 127#32) 23#32)
abbrev kInv (b : BitVec 32) : EReal :=
  Ideal.ofBits .f32 (IntOp.shli .vector (IntOp.subi 127#32 (Scalar.select (IntOp.cmpi .eq b 0#32) 0#32 (IntOp.subi b 126#32))) 23#32)

theorem fields_one : (IntOp.addi (Scalar.select (IntOp.cmpi .eq (IntOp.subi (BitVec.ofNat 32 1) 1#32) 0#32) 0#32 (IntOp.subi (IntOp.subi (BitVec.ofNat 32 1) 1#32) 126#32)) 127#32 : BitVec 32) = BitVec.ofNat 32 127
    ∧ (IntOp.subi 127#32 (Scalar.select (IntOp.cmpi .eq (IntOp.subi (BitVec.ofNat 32 1) 1#32) 0#32) 0#32 (IntOp.subi (IntOp.subi (BitVec.ofNat 32 1) 1#32) 126#32)) : BitVec 32) = BitVec.ofNat 32 127 := by decide +kernel

theorem fields : ∀ k : Fin 241, 2 ≤ k.val →
    (IntOp.addi (Scalar.select (IntOp.cmpi .eq (IntOp.subi (BitVec.ofNat 32 k.val) 1#32) 0#32) 0#32 (IntOp.subi (IntOp.subi (BitVec.ofNat 32 k.val) 1#32) 126#32)) 127#32 : BitVec 32) = BitVec.ofNat 32 k.val
    ∧ (IntOp.subi 127#32 (Scalar.select (IntOp.cmpi .eq (IntOp.subi (BitVec.ofNat 32 k.val) 1#32) 0#32) 0#32 (IntOp.subi (IntOp.subi (BitVec.ofNat 32 k.val) 1#32) 126#32)) : BitVec 32) = BitVec.ofNat 32 (254 - k.val) := by decide +kernel

theorem one_bits : Ideal.ofBits .f32 1065353216#32 = (1 : EReal) := Ideal.ofBits_one_f32

theorem q_one : Ideal.ofBits .f32 8388608#32 = q 1 := rfl
theorem q_127 : q 127 = 1 := one_bits
theorem top_bits : Ideal.ofBits .f32 2139095040#32 = (⊤ : EReal) := q_top

theorem scale_eq (p : EReal) (h0 : 0 ≤ p) (h1 : p < q 240) :
    kScale (below p) = scaleOf p ∧ kInv (below p) = Ideal.div (Ideal.ofBits .f32 1065353216#32) (scaleOf p) := by
  by_cases hs : p < q 1
  · have hb : below p = IntOp.subi (BitVec.ofNat 32 1) 1#32 := by
      refine below_eq p 1 (by omega) fun i => ⟨fun hi => ?_, fun hi => lt_of_lt_of_le hs (q_mono hi (by omega))⟩
      by_contra hc
      have : i.val = 0 := by omega
      rw [this, q_zero] at hi
      exact absurd h0 (not_le.mpr hi)
    have es : scaleOf p = 1 := by
      unfold scaleOf
      rw [if_pos (by rw [q_one]; exact hs), one_bits]
    rw [hb, es]
    unfold kScale kInv
    rw [fields_one.1, fields_one.2]
    refine ⟨q_127, q_127.trans ?_⟩
    rw [one_bits]
    unfold Ideal.div
    rw [if_neg one_ne_zero, inv_one, mul_one]
  · have hex : ∃ k, p < q k := ⟨240, h1⟩
    classical
    obtain ⟨k, hkp, hmin⟩ : ∃ k, p < q k ∧ ∀ j, j < k → ¬p < q j := ⟨Nat.find hex, Nat.find_spec hex, fun j hj => Nat.find_min hex hj⟩
    have hk240 : k ≤ 240 := by
      by_contra hc
      exact hmin 240 (by omega) h1
    have hk2 : 2 ≤ k := by
      by_contra hc
      have : k = 0 ∨ k = 1 := by omega
      rcases this with rfl | rfl
      · rw [q_zero] at hkp; exact absurd h0 (not_le.mpr hkp)
      · exact hs hkp
    have hiff : ∀ i : ℕ, i ≤ 255 → (p < q i ↔ k ≤ i) := fun i hi => ⟨fun h => by
      by_contra hc
      exact hmin i (by omega) h, fun h => lt_of_lt_of_le hkp (q_mono h hi)⟩
    have hb : below p = IntOp.subi (BitVec.ofNat 32 k) 1#32 := below_eq p k (by omega) fun i => hiff i.val (by omega)
    have es : scaleOf p = q k := by
      unfold scaleOf
      rw [if_neg (by rw [q_one]; exact hs), top_bits]
      have hpk : pow ⟨k - 2, by omega⟩ = q k := by
        rw [pow_q (k - 2) (by omega)]; congr 3; omega
      refine le_antisymm ?_ ?_
      · rw [Finset.fold_min_le]
        right
        refine ⟨⟨k - 2, by omega⟩, Finset.mem_univ _, ?_⟩
        rw [hpk, if_pos hkp]
      · rw [Finset.le_fold_min]
        refine ⟨le_top, fun i _ => ?_⟩
        split_ifs with hi
        · by_cases h252 : i.val ≤ 252
          · rw [pow_q i.val h252] at hi ⊢
            exact q_mono ((hiff _ (by omega)).mp hi) (by omega)
          · rw [pow_all, q_mid k (by omega) (by omega)]
            exact EReal.coe_le_coe_iff.mpr <| zpow_le_zpow_right₀ (by norm_num : (1:ℝ) ≤ 2) (by omega)
        · exact le_top
    rw [hb, es]
    unfold kScale kInv
    have hf := fields ⟨k, by omega⟩ hk2
    simp only at hf
    rw [hf.1, hf.2]
    refine ⟨rfl, ?_⟩
    rw [one_bits]
    unfold Ideal.div
    have hq : q k ≠ 0 := by
      rw [q_mid k (by omega) (by omega)]
      exact EReal.coe_ne_zero.mpr (zpow_pos (by norm_num : (0:ℝ) < 2) _).ne'
    rw [if_neg hq, one_mul]
    show q (254 - k) = (q k)⁻¹
    rw [q_mid k (by omega) (by omega), q_mid (254 - k) (by omega) (by omega), ← EReal.coe_inv, ← zpow_neg]
    congr 2
    omega

end Cert.Spec

end
-- ==== Proof.Value.AccLem.lean ====
/- Sums chunk by chunk, and the accumulator after a point's stores. -/
module

public import proofs.«01_k».proof.Proof.Value.PayK
public import proofs.«01_k».proof.Proof.Value.Scale
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

/-- The part of a sum over 14336 that chunk `n` holds, and the sum of the chunks up to `n`. -/
def chunk (f : Fin 14336 → EReal) (n : ℕ) (hn : n < 8) : EReal := ∑ q : Fin 1792, f ⟨1792 * n + q.val, by omega⟩
def psum (f : Fin 14336 → EReal) : (n : ℕ) → n < 8 → EReal
  | 0, hn => chunk f 0 hn
  | n + 1, hn => psum f n (Nat.lt_of_succ_lt hn) + chunk f (n + 1) hn

theorem psum_all (f : Fin 14336 → EReal) : psum f 7 (by decide) = ∑ k : Fin 14336, f k := by
  rw [Fin.sum_univ_tiles 8 1792 (by norm_num) f, Fin.sum_univ_eight]
  have e : ∀ (n : Fin 8), (∑ q : Fin 1792, f ⟨n.val * 1792 + q.val, by omega⟩) = chunk f n.val n.isLt := fun n =>
    Finset.sum_congr rfl fun q _ => congrArg f (Fin.ext (by show n.val * 1792 + q.val = 1792 * n.val + q.val; omega))
  rw [e 0, e 1, e 2, e 3, e 4, e 5, e 6, e 7]
  rfl

theorem acc_emb (j : Fin 8) (p : Fin 256) (d : Fin 512) :
    (accRect j).emb (ix2 p d) = (ix2 p ⟨512 * j.val + d.val, by omega⟩ : S256x4096.Idx) :=
  Shape.idx_ext₂ (show 0 + 1 * p.val = p.val by omega) (show 512 * j.val + 1 * d.val = 512 * j.val + d.val by omega)

theorem mem_acc (j : Fin 8) (p : Fin 256) (d : Fin 4096) (h : (ix2 p d : S256x4096.Idx) ∈ (accRect j).set) : 512 * j.val ≤ d.val ∧ d.val < 512 * j.val + 512 := by
  obtain ⟨x, hx⟩ := (accRect j).exists_idx_of_mem h
  have h2 : 512 * j.val + 1 * (x 1).val = d.val := congrArg Fin.val (congrFun hx 1)
  have h3 : (x 1).val < 512 := (x 1).isLt
  omega

theorem pay44_at (y : S256x4096.Idx) : (k0_pay44 (F := Ideal)) y = (0 : EReal) := by
  show Ideal.ofBits .f32 0#32 = 0
  exact Ideal.ofBits_zero_f32

theorem pay26_at (y : S128x256.Idx) : (k0_pay26 (F := Ideal)) y = (0 : EReal) := by
  show Ideal.ofBits .f32 0#32 = 0
  exact Ideal.ofBits_zero_f32

variable (cb : FVec Ideal S256x1792 .bf16) (w : Fin 8 → FVec Ideal S1792x512 .bf16) (W : Fin 1792 → Fin 4096 → EReal)
  (hw : ∀ (j : Fin 8) (q : Fin 1792) (d : Fin 512), w j (ix2 q d) = W q ⟨512 * j.val + d.val, by omega⟩)
include hw

theorem accZ_at (v : View sig .tc .vmem S256x4096 .f32) (n : ℕ) (hn : n ≤ 8) (p : Fin 256) (d : Fin 4096) :
    View.canon (Val := Elt Ideal) (e := .f32) (accZ v cb w n hn) (ix2 p d) = if d.val < 512 * n then ∑ q : Fin 1792, (cb (ix2 p q) * W q d : EReal) else 0 := by
  induction n generalizing p d with
  | zero =>
    unfold accZ
    rw [View.canon_unit_zero z2, pay44_at, if_neg (by omega)]
  | succ n ih =>
    unfold accZ
    by_cases hd : 512 * n ≤ d.val ∧ d.val < 512 * n + 512
    · have e : (ix2 p d : S256x4096.Idx) = (accRect ⟨n, hn⟩).emb (ix2 p ⟨d.val - 512 * n, by omega⟩) := by
        rw [acc_emb]
        exact Shape.idx_ext₂ rfl (show d.val = 512 * n + (d.val - 512 * n) by omega)
      rw [e, View.canon_cons_emb (Val := Elt Ideal) (e := .f32), accStep_at, View.readCov_eq_canon']
      have e2 : View.canon (Val := Elt Ideal) (e := .f32) (accZ v cb w n (Nat.le_of_succ_le hn)) ((accRect ⟨n, hn⟩).toLoadRect.idx (ix2 p ⟨d.val - 512 * n, by omega⟩)) = (0 : EReal) := by
        rw [show (accRect ⟨n, hn⟩).toLoadRect.idx (ix2 p ⟨d.val - 512 * n, by omega⟩) = (ix2 p d : S256x4096.Idx) from e.symm, ih, if_neg (by omega)]
      refine Eq.trans (congrArg (· + _) e2) ?_
      show (0 : EReal) + _ = _
      rw [zero_add, if_pos (by omega)]
      refine Finset.sum_congr rfl fun q _ => ?_
      rw [hw]
      congr 2
      exact Fin.ext (show 512 * n + (d.val - 512 * n) = d.val by omega)
    · have hm : (ix2 p d : S256x4096.Idx) ∉ (accRect ⟨n, hn⟩).set := fun h => hd (mem_acc ⟨n, hn⟩ p d h)
      refine (View.canon_cons_of_not_mem (Val := Elt Ideal) (e := .f32) ⟨accRect ⟨n, hn⟩, _⟩ _ hm).trans ?_
      rw [ih]
      by_cases h1 : d.val < 512 * n
      · rw [if_pos h1, if_pos (by omega)]
      · rw [if_neg h1, if_neg (by omega)]

theorem accPieces_at (X : Vec Ideal S256x4096 .f32) (p : Fin 256) (d : Fin 4096) :
    View.canon (Val := Elt Ideal) (e := .f32) (accPieces cb w fun j => View.ld X (accRect j)) (ix2 p d) = (X (ix2 p d) : EReal) + ∑ q : Fin 1792, (cb (ix2 p q) * W q d : EReal) := by
  have key : ∀ (j : Fin 8) (x : (accRect j).shape.Idx), accStep cb (w j) (View.ld X (accRect j)) x = (fun y : S256x4096.Idx => (X y : EReal) + ∑ q : Fin 1792, (cb (ix2 (y 0) q) * W q (y 1) : EReal)) ((accRect j).emb x) := by
    intro j x
    obtain ⟨p, e, rfl⟩ : ∃ (p : Fin 256) (e : Fin 512), x = ix2 p e := ⟨x 0, x 1, Shape.idx_ext₂ rfl rfl⟩
    rw [acc_emb, accStep_at]
    refine congrArg₂ _ ?_ (Finset.sum_congr rfl fun q _ => by rw [hw]; rfl)
    exact congrArg X (acc_emb j p e)
  refine View.canon_apply_of_pieces (Val := Elt Ideal) (e := .f32) (fun y : S256x4096.Idx => (X y : EReal) + ∑ q : Fin 1792, (cb (ix2 (y 0) q) * W q (y 1) : EReal)) _ ?_ (ix2 p d) ?_
  · intro pc hp x
    simp only [accPieces, List.mem_cons, List.not_mem_nil, or_false] at hp
    rcases hp with rfl | rfl | rfl | rfl | rfl | rfl | rfl | rfl <;> exact key _ x
  · exact View.cover_of_tiledL (accPieces cb w fun j => View.ld X (accRect j)) S256x512.size (by sl_kernel_rfl) (ix2 p d)

omit hw in
theorem dxPieces_at (gu : FVec Ideal S256x256 .bf16) (sc : Vec Ideal S256x128 .f32) (a : Vec Ideal S128x4096 .bf16) (acc : Vec Ideal S256x4096 .f32) (S : Fin 256 → EReal)
    (hs : ∀ p l, sc (ix2 p l) = S p) (p : Fin 256) (d : Fin 4096) :
    View.canon (Val := Elt Ideal) (e := .bf16) (dxPieces gu sc (fun j => View.ld a (aRect j)) fun j => View.ld acc (accRect j)) (ix2 p d)
      = (acc (ix2 p d) : EReal) * S p + Spec.two * ((∑ x : Fin 128, (gu (ix2 p ⟨x.val, by omega⟩) * a (ix2 x d) : EReal)) + ∑ x : Fin 128, (gu (ix2 p ⟨128 + x.val, by omega⟩) * a (ix2 x d) : EReal)) := by
  have key : ∀ (j : Fin 8) (x : (accRect j).shape.Idx), dxTile gu sc (View.ld a (aRect j)) (View.ld acc (accRect j)) x
      = (fun y : S256x4096.Idx => (acc y : EReal) * S (y 0) + Spec.two * ((∑ x : Fin 128, (gu (ix2 (y 0) ⟨x.val, by omega⟩) * a (ix2 x (y 1)) : EReal)) + ∑ x : Fin 128, (gu (ix2 (y 0) ⟨128 + x.val, by omega⟩) * a (ix2 x (y 1)) : EReal))) ((accRect j).emb x) := by
    intro j x
    obtain ⟨p, e, rfl⟩ : ∃ (p : Fin 256) (e : Fin 512), x = ix2 p e := ⟨x 0, x 1, Shape.idx_ext₂ rfl rfl⟩
    rw [acc_emb, dxTile_at gu sc _ _ (S p) p e (hs p)]
    have ea : ∀ x : Fin 128, View.ld a (aRect j) (ix2 x e) = a (ix2 x ⟨512 * j.val + e.val, by omega⟩) := fun x =>
      congrArg a (Shape.idx_ext₂ (show 0 + 1 * x.val = x.val by omega) (show 512 * j.val + 1 * e.val = 512 * j.val + e.val by omega))
    have ec : View.ld acc (accRect j) (ix2 p e) = acc (ix2 p ⟨512 * j.val + e.val, by omega⟩) := congrArg acc (acc_emb j p e)
    simp only [ea, ec]
    rfl
  refine View.canon_apply_of_pieces (Val := Elt Ideal) (e := .bf16) (fun y : S256x4096.Idx => (acc y : EReal) * S (y 0) + Spec.two * ((∑ x : Fin 128, (gu (ix2 (y 0) ⟨x.val, by omega⟩) * a (ix2 x (y 1)) : EReal)) + ∑ x : Fin 128, (gu (ix2 (y 0) ⟨128 + x.val, by omega⟩) * a (ix2 x (y 1)) : EReal))) _ ?_ (ix2 p d) ?_
  · intro pc hp x
    simp only [dxPieces, List.mem_cons, List.not_mem_nil, or_false] at hp
    rcases hp with rfl | rfl | rfl | rfl | rfl | rfl | rfl | rfl <;> exact key _ x
  · exact View.cover_of_tiledL (dxPieces gu sc (fun j => View.ld a (aRect j)) fun j => View.ld acc (accRect j)) S256x512.size (by sl_kernel_rfl) (ix2 p d)

omit hw in
/-- The running maximum of the magnitudes of the block columns. -/
theorem amax_le (f : (n : Fin 112) → (dyCol n).shape.Idx → Elt Ideal .bf16) (n : ℕ) (hn : n < 112) (y : S256x128.Idx) (b : EReal) :
    (amax f n hn y : EReal) ≤ b ↔ ∀ (i : ℕ) (hi : i < 112), i ≤ n → max (f ⟨i, hi⟩ y : EReal) (-(f ⟨i, hi⟩ y : EReal)) ≤ b := by
  induction n with
  | zero =>
    unfold amax
    exact ⟨fun h i hi h0 => by obtain rfl : i = 0 := by omega
                               exact h, fun h => h 0 hn le_rfl⟩
  | succ n ih =>
    unfold amax
    have e : (maximumf (amax f n (Nat.lt_of_succ_lt hn)) (absf (f ⟨n + 1, hn⟩)) y : EReal)
      = max (amax f n (Nat.lt_of_succ_lt hn) y : EReal) (max (f ⟨n + 1, hn⟩ y : EReal) (-(f ⟨n + 1, hn⟩ y : EReal))) := rfl
    rw [e, max_le_iff, ih]
    refine ⟨fun h i hi hin => ?_, fun h => ⟨fun i hi hin => h i hi (by omega), h (n + 1) hn le_rfl⟩⟩
    by_cases hc : i = n + 1
    · subst hc; exact h.2
    · exact h.1 i hi (by omega)

omit hw in
/-- The exponent field of a row is the count of the powers at or below its quotient. -/
theorem bexp_row (A : Spec.Args) (x1 : Vec Ideal S256x14336 .bf16) (hx : ∀ p f, x1 (ix2 p f) = A.dy p f) (p : Fin 256) :
    bexp (amax (fun n => View.ld x1 (dyCol n)) 111 (by decide)) (ix2 p 0) = Spec.below (Spec.quot A p) := by
  rw [bexp_at]
  have e : Finset.fold max (Ideal.ofBits .f32 4286578688#32) (fun l : Fin 128 => (amax (fun n => View.ld x1 (dyCol n)) 111 (by decide) (ix2 p l) : EReal)) Finset.univ
      = Finset.univ.fold max (Ideal.ofBits .f32 4286578688#32) fun f : Fin 14336 => max (A.dy p f) (-A.dy p f) := by
    refine eq_of_forall_ge_iff fun b => ?_
    rw [Finset.fold_max_le, Finset.fold_max_le]
    refine and_congr_right fun _ => ?_
    have ld : ∀ (n : Fin 112) (l : Fin 128), View.ld x1 (dyCol n) (ix2 p l) = A.dy p ⟨128 * n.val + l.val, by omega⟩ := fun n l => by
      rw [← hx]
      exact congrArg x1 (Shape.idx_ext₂ (show 0 + 1 * p.val = p.val by omega) (show 128 * n.val + 1 * l.val = 128 * n.val + l.val by omega))
    constructor
    · intro h f _
      have := (amax_le _ _ _ _ _).mp (h ⟨f.val % 128, by omega⟩ (Finset.mem_univ _)) (f.val / 128) (by omega) (by omega)
      rw [ld ⟨f.val / 128, by omega⟩ ⟨f.val % 128, by omega⟩] at this
      rw [show f = ⟨128 * (f.val / 128) + f.val % 128, by omega⟩ from Fin.ext (by show f.val = 128 * (f.val / 128) + f.val % 128; omega)]
      exact this
    · intro h l _
      rw [amax_le]
      intro i hi _
      rw [ld ⟨i, hi⟩ l]
      exact h _ (Finset.mem_univ _)
  rw [e]
  rfl

end Cert.KernelIdeal.Hand

end
-- ==== Proof.Value.KArgs.lean ====
/- The blocks each point of the kernel reads, in the arguments by coordinates. -/
module

public import proofs.«01_k».proof.Proof.Value.Spec
public import proofs.«01_k».proof.Proof.Run.Frame
public import Idealize.ShloMosaic.Lib.Pipeline.ValueKit.Point
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

/-- The launch's arguments by coordinates. -/
def args : Spec.Args :=
  Spec.ofRaw (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Column `q` of point `t`'s chunk. -/
abbrev at' (t : Fin cfg0.N) (q : Fin 1792) : Fin 14336 :=
  ⟨1792 * t.val + q.val, by have := lt_of_lt_of_eq t.isLt N_0; omega⟩

variable (t : Fin cfg0.N)

theorem x0_at (p : Fin 256) (q : Fin 4096) : iblk m c 0 t (ix2 p q) = (args m c).x p q := by
  have i0 : ∀ t : Fin cfg0.N, ∀ a, win0_0.index t a = 0 := (by decide +kernel : ∀ t : Fin grid0.N, ∀ a, win0_0.index t a = 0)
  unfold args Spec.ofRaw
  blk_ext! [iblk, V, i0]

theorem x1_at (p : Fin 256) (q : Fin 14336) : iblk m c 1 t (ix2 p q) = (args m c).dy p q := by
  have i0 : ∀ t : Fin cfg0.N, ∀ a, win0_1.index t a = 0 := (by decide +kernel : ∀ t : Fin grid0.N, ∀ a, win0_1.index t a = 0)
  unfold args Spec.ofRaw
  blk_ext! [iblk, V, i0]

theorem x2_at (q : Fin 1792) (d : Fin 4096) : iblk m c 2 t (ix2 q d) = (args m c).w (at' t q) d := by
  have i0 : ∀ t : Fin cfg0.N, win0_2.index t 0 = t.val := (by decide +kernel : ∀ t : Fin grid0.N, win0_2.index t 0 = t.val)
  have i1 : ∀ t : Fin cfg0.N, win0_2.index t 1 = 0 := (by decide +kernel : ∀ t : Fin grid0.N, win0_2.index t 1 = 0)
  unfold args Spec.ofRaw
  blk_ext! [iblk, V, i0, i1]

theorem x3_at (n : Fin 32) (r : Fin 112) : iblk m c 3 t (ix2 n r) = (args m c).ws r n := by
  have i0 : ∀ t : Fin cfg0.N, ∀ a, win0_3.index t a = 0 := (by decide +kernel : ∀ t : Fin grid0.N, ∀ a, win0_3.index t a = 0)
  unfold args Spec.ofRaw
  blk_ext! [iblk, V, i0]

theorem x4_at (g : Fin 128) (d : Fin 4096) : iblk m c 4 t (ix2 g d) = (args m c).a g d := by
  have i0 : ∀ t : Fin cfg0.N, ∀ a, win0_4.index t a = 0 := (by decide +kernel : ∀ t : Fin grid0.N, ∀ a, win0_4.index t a = 0)
  unfold args Spec.ofRaw
  blk_ext! [iblk, V, i0]

theorem x5_at (g : Fin 128) (q : Fin 1792) : iblk m c 5 t (ix2 g q) = (args m c).b (at' t q) g := by
  have i0 : ∀ t : Fin cfg0.N, win0_5.index t 0 = 0 := (by decide +kernel : ∀ t : Fin grid0.N, win0_5.index t 0 = 0)
  have i1 : ∀ t : Fin cfg0.N, win0_5.index t 1 = t.val := (by decide +kernel : ∀ t : Fin grid0.N, win0_5.index t 1 = t.val)
  unfold args Spec.ofRaw
  blk_ext! [iblk, V, i0, i1]

theorem x6_at (j : Fin 2) (p : Fin 256) : iblk m c 6 t (ix2 j p) = (args m c).idx p j := by
  have i0 : ∀ t : Fin cfg0.N, ∀ a, win0_6.index t a = 0 := (by decide +kernel : ∀ t : Fin grid0.N, ∀ a, win0_6.index t a = 0)
  unfold args Spec.ofRaw
  blk_ext! [iblk, V, i0]

theorem x7_at (j : Fin 2) (p : Fin 256) : iblk m c 7 t (ix2 j p) = (args m c).g p j := by
  have i0 : ∀ t : Fin cfg0.N, ∀ a, win0_7.index t a = 0 := (by decide +kernel : ∀ t : Fin grid0.N, ∀ a, win0_7.index t a = 0)
  unfold args Spec.ofRaw
  blk_ext! [iblk, V, i0]

theorem coord (t : Fin cfg0.N) : (grid0.coords t 0).val = t.val :=
  (by decide +kernel : ∀ t : Fin grid0.N, (grid0.coords t 0).val = t.val) t

theorem off1 (t : Fin cfg0.N) : k0_off1 (grid0.coords t) = ![0, 1792 * t.val] :=
  (by decide +kernel : ∀ t : Fin grid0.N, k0_off1 (grid0.coords t) = ![0, 1792 * t.val]) t

end Cert.KernelIdeal.Hand

end
-- ==== Proof.Value.StructA.lean ====
/- The stores of the body at the first point, each as a function of what the body loads. -/
module

public import proofs.«01_k».proof.Proof.Value.Struct

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable {c : Dev nD} {i : grid0.Coords} {arg1 : Memref sig .tc .vmem S256x4096 .bf16} {harg1 : arg1.IsWhole} {arg2 : Memref sig .tc .vmem S256x14336 .bf16} {harg2 : arg2.IsWhole} {arg3 : Memref sig .tc .vmem S1792x4096 .fp8e4m3} {harg3 : arg3.IsWhole} {arg4 : Memref sig .tc .smem S32x112 .f32} {harg4 : arg4.IsWhole} {arg5 : Memref sig .tc .vmem S128x4096 .bf16} {harg5 : arg5.IsWhole} {arg6 : Memref sig .tc .vmem S128x1792 .bf16} {harg6 : arg6.IsWhole} {arg7 : Memref sig .tc .vmem S2x256 .i32} {harg7 : arg7.IsWhole} {arg8 : Memref sig .tc .vmem S2x256 .f32} {harg8 : arg8.IsWhole} {arg9 : Memref sig .tc .vmem S256x4096 .bf16} {harg9 : arg9.IsWhole} {arg10 : Memref sig .tc .vmem S128x4096 .f32} {harg10 : arg10.IsWhole} {arg11 : Memref sig .tc .vmem S128x1792 .f32} {harg11 : arg11.IsWhole} {arg12 : Memref sig .tc .vmem S2x256 .f32} {harg12 : arg12.IsWhole} {arg13 : Memref sig .tc .vmem S256x1792 .fp8e5m2} {harg13 : arg13.IsWhole} {arg14 : Memref sig .tc .vmem S1x256 .f32} {harg14 : arg14.IsWhole} {arg15 : Memref sig .tc .vmem S256x4096 .f32} {harg15 : arg15.IsWhole} {arg16 : Memref sig .tc .vmem S128x256 .f32} {harg16 : arg16.IsWhole} {arg17 : Memref sig .tc .vmem S128x512 .bf16} {harg17 : arg17.IsWhole} {arg18 : Memref sig .tc .vmem S128x256 .f32} {harg18 : arg18.IsWhole} {arg19 : Memref sig .tc .vmem S256x8 .f32} {harg19 : arg19.IsWhole} {arg20 : Memref sig .tc .vmem S256x128 .bf16} {harg20 : arg20.IsWhole} {arg21 : Memref sig .tc .vmem S256x128 .f32} {harg21 : arg21.IsWhole} {hc0 : cond0_0 i} {hc1 : ¬cond0_1 i}
        {x0 : Vec F S256x4096 .bf16} {x1 : Vec F S256x14336 .bf16} {x2 : Vec F S1792x4096 .fp8e4m3} {x3 : Vec F S32x112 .f32} {x4 : Vec F S128x4096 .bf16} {x5 : Vec F S128x1792 .bf16} {x6 : Vec F S2x256 .i32} {x7 : Vec F S2x256 .f32}

/-- The exponent fields the point computes. -/
abbrev bx (arg2 : Memref sig .tc .vmem S256x14336 .bf16) (harg2 : arg2.IsWhole) (x1 : Vec F S256x14336 .bf16) : IVec S256x1 32 :=
  bexp (amax (fun n => rd arg2 harg2 x1 (dyCol n)) 111 (by decide))

set_option maxHeartbeats 4000000 in
theorem scaleA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.1
    = [⟨Rect.unit (s := S1x256) ![0, 0] S1x256.size inb_S1x256_S1x256_0_0, k0_pay25 (isZ (bx arg2 harg2 x1)) (expo (bx arg2 harg2 x1))⟩] := by
  rfl

set_option maxHeartbeats 4000000 in
theorem scolA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.2.2.1
    = [⟨Rect.unit (s := S256x128) ![0, 0] S256x128.size inb_S256x128_S256x128_0_0, k0_pay23 (isZ (bx arg2 harg2 x1)) (expo (bx arg2 harg2 x1))⟩] := by
  rfl

set_option maxHeartbeats 4000000 in
theorem invA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.2.1
    = [⟨Rect.unit (s := S256x128) ![0, 0] S256x128.size inb_S256x128_S256x128_0_0, k0_pay24 (isZ (bx arg2 harg2 x1)) (expo (bx arg2 harg2 x1))⟩] := by
  rfl

set_option maxHeartbeats 4000000 in
theorem gcolA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.2.1
    = [⟨Rect.unit (s := S256x8) ![0, 0] S256x8.size inb_S256x8_S256x8_0_0, k0_pay8 (k0_pay7 (rd arg8 harg8 x7 (Rect.unit (s := S2x256) ![0, 0] S2x256.size inb_S2x256_S2x256_0_0))) (Scalar.ofBits .f32 0x00000000#32)⟩] := by
  rfl

set_option maxHeartbeats 4000000 in
theorem htA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.1
    = [⟨Rect.unit (s := S128x256) ![0, 0] S128x256.size inb_S128x256_S128x256_0_0, k0_pay4 (rd arg5 harg5 x4 (Rect.unit (s := S128x4096) ![0, 0] S128x4096.size inb_S128x4096_S128x4096_0_0)) (rd arg1 harg1 x0 (Rect.unit (s := S256x4096) ![0, 0] S256x4096.size inb_S256x4096_S256x4096_0_0))⟩] := by
  rfl

set_option maxHeartbeats 4000000 in
theorem hmA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.1
    = [⟨hmRect 1, k0_pay5 iot (rd arg5 harg5 x4 (Rect.unit (s := S128x4096) ![0, 0] S128x4096.size inb_S128x4096_S128x4096_0_0)) (rd arg1 harg1 x0 (Rect.unit (s := S256x4096) ![0, 0] S256x4096.size inb_S256x4096_S256x4096_0_0)) (rd arg7 harg7 x6 (rowRect 1))⟩, ⟨hmRect 0, k0_pay5 iot (rd arg5 harg5 x4 (Rect.unit (s := S128x4096) ![0, 0] S128x4096.size inb_S128x4096_S128x4096_0_0)) (rd arg1 harg1 x0 (Rect.unit (s := S256x4096) ![0, 0] S256x4096.size inb_S256x4096_S256x4096_0_0)) (rd arg7 harg7 x6 (rowRect 0))⟩] := by
  rfl

set_option maxHeartbeats 4000000 in
theorem codesA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.1
    = [⟨Rect.unit (s := S256x1792) ![0, 0] S256x1792.size inb_S256x1792_S256x1792_0_0, k0_pay45 (rd arg2 harg2 x1 (dyRect i)) (arg20.view.readCov [⟨Rect.unit (s := S256x128) ![0, 0] S256x128.size inb_S256x128_S256x128_0_0, k0_pay24 (isZ (bx arg2 harg2 x1)) (expo (bx arg2 harg2 x1))⟩] (Rect.unit (s := S256x128) ![0, 0] S256x128.size inb_S256x128_S256x128_0_0).toLoadRect)⟩] := by
  rfl

set_option maxHeartbeats 4000000 in
theorem dbA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.1
    = [⟨Rect.unit (s := S128x1792) ![0, 0] S128x1792.size inb_S128x1792_S128x1792_0_0, dbOf (rd arg2 harg2 x1 (dyRect i)) (arg19.view.readCov [⟨Rect.unit (s := S256x8) ![0, 0] S256x8.size inb_S256x8_S256x8_0_0, k0_pay8 (k0_pay7 (rd arg8 harg8 x7 (Rect.unit (s := S2x256) ![0, 0] S2x256.size inb_S2x256_S2x256_0_0))) (Scalar.ofBits .f32 0x00000000#32)⟩] (gRect 0).toLoadRect) (arg19.view.readCov [⟨Rect.unit (s := S256x8) ![0, 0] S256x8.size inb_S256x8_S256x8_0_0, k0_pay8 (k0_pay7 (rd arg8 harg8 x7 (Rect.unit (s := S2x256) ![0, 0] S2x256.size inb_S2x256_S2x256_0_0))) (Scalar.ofBits .f32 0x00000000#32)⟩] (gRect 1).toLoadRect) (arg17.view.readCov [⟨hmRect 1, k0_pay5 iot (rd arg5 harg5 x4 (Rect.unit (s := S128x4096) ![0, 0] S128x4096.size inb_S128x4096_S128x4096_0_0)) (rd arg1 harg1 x0 (Rect.unit (s := S256x4096) ![0, 0] S256x4096.size inb_S256x4096_S256x4096_0_0)) (rd arg7 harg7 x6 (rowRect 1))⟩, ⟨hmRect 0, k0_pay5 iot (rd arg5 harg5 x4 (Rect.unit (s := S128x4096) ![0, 0] S128x4096.size inb_S128x4096_S128x4096_0_0)) (rd arg1 harg1 x0 (Rect.unit (s := S256x4096) ![0, 0] S256x4096.size inb_S256x4096_S256x4096_0_0)) (rd arg7 harg7 x6 (rowRect 0))⟩] (Rect.unit (s := S128x512) ![0, 0] S128x512.size inb_S128x512_S128x512_0_0).toLoadRect)⟩] := by
  rfl

set_option maxHeartbeats 4000000 in
theorem utA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.2.2.2.1
    = ⟨Rect.unit (s := S128x256) ![0, 0] S128x256.size inb_S128x256_S128x256_0_0, k0_pay47 (rd arg2 harg2 x1 (dyRect i)) (arg18.view.readCov [⟨Rect.unit (s := S128x256) ![0, 0] S128x256.size inb_S128x256_S128x256_0_0, k0_pay26⟩] (Rect.unit (s := S128x256) ![0, 0] S128x256.size inb_S128x256_S128x256_0_0).toLoadRect) (rd arg6 harg6 x5 (Rect.unit (s := S128x1792) ![0, 0] S128x1792.size inb_S128x1792_S128x1792_0_0))⟩ :: [⟨Rect.unit (s := S128x256) ![0, 0] S128x256.size inb_S128x256_S128x256_0_0, k0_pay26⟩] := by
  rfl

set_option maxHeartbeats 4000000 in
theorem accA : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7).2.2.2.2.2.2.1
    = accZ arg15.view (k0_pay46 (rd arg2 harg2 x1 (dyRect i)) (arg20.view.readCov [⟨Rect.unit (s := S256x128) ![0, 0] S256x128.size inb_S256x128_S256x128_0_0, k0_pay24 (isZ (bx arg2 harg2 x1)) (expo (bx arg2 harg2 x1))⟩] (Rect.unit (s := S256x128) ![0, 0] S256x128.size inb_S256x128_S256x128_0_0).toLoadRect)) (wTile i (fun n q => rd arg4 harg4 x3 (sRect i n q)) (fun n q => rd arg3 harg3 x2 (wRect n q))) 8 (by decide) := by
  rfl

end Cert.KernelIdeal.Hand

end
-- ==== Proof.Value.StructB.lean ====
/- The stores of the body at a middle point, each as a function of what the body loads. -/
module

public import proofs.«01_k».proof.Proof.Value.Struct

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable {c : Dev nD} {i : grid0.Coords} {arg1 : Memref sig .tc .vmem S256x4096 .bf16} {harg1 : arg1.IsWhole} {arg2 : Memref sig .tc .vmem S256x14336 .bf16} {harg2 : arg2.IsWhole} {arg3 : Memref sig .tc .vmem S1792x4096 .fp8e4m3} {harg3 : arg3.IsWhole} {arg4 : Memref sig .tc .smem S32x112 .f32} {harg4 : arg4.IsWhole} {arg5 : Memref sig .tc .vmem S128x4096 .bf16} {harg5 : arg5.IsWhole} {arg6 : Memref sig .tc .vmem S128x1792 .bf16} {harg6 : arg6.IsWhole} {arg7 : Memref sig .tc .vmem S2x256 .i32} {harg7 : arg7.IsWhole} {arg8 : Memref sig .tc .vmem S2x256 .f32} {harg8 : arg8.IsWhole} {arg9 : Memref sig .tc .vmem S256x4096 .bf16} {harg9 : arg9.IsWhole} {arg10 : Memref sig .tc .vmem S128x4096 .f32} {harg10 : arg10.IsWhole} {arg11 : Memref sig .tc .vmem S128x1792 .f32} {harg11 : arg11.IsWhole} {arg12 : Memref sig .tc .vmem S2x256 .f32} {harg12 : arg12.IsWhole} {arg13 : Memref sig .tc .vmem S256x1792 .fp8e5m2} {harg13 : arg13.IsWhole} {arg14 : Memref sig .tc .vmem S1x256 .f32} {harg14 : arg14.IsWhole} {arg15 : Memref sig .tc .vmem S256x4096 .f32} {harg15 : arg15.IsWhole} {arg16 : Memref sig .tc .vmem S128x256 .f32} {harg16 : arg16.IsWhole} {arg17 : Memref sig .tc .vmem S128x512 .bf16} {harg17 : arg17.IsWhole} {arg18 : Memref sig .tc .vmem S128x256 .f32} {harg18 : arg18.IsWhole} {arg19 : Memref sig .tc .vmem S256x8 .f32} {harg19 : arg19.IsWhole} {arg20 : Memref sig .tc .vmem S256x128 .bf16} {harg20 : arg20.IsWhole} {arg21 : Memref sig .tc .vmem S256x128 .f32} {harg21 : arg21.IsWhole} {hc0 : ¬cond0_0 i} {hc1 : ¬cond0_1 i}
        {x0 : Vec F S256x4096 .bf16} {x1 : Vec F S256x14336 .bf16} {x2 : Vec F S1792x4096 .fp8e4m3} {x3 : Vec F S32x112 .f32} {x4 : Vec F S128x4096 .bf16} {x5 : Vec F S128x1792 .bf16} {x6 : Vec F S2x256 .i32} {x7 : Vec F S2x256 .f32} {xs0 : Vec F S256x4096 .f32} {xs1 : Vec F S128x256 .f32} {xs2 : Vec F S128x512 .bf16} {xs3 : Vec F S128x256 .f32} {xs4 : Vec F S256x8 .f32} {xs5 : Vec F S256x128 .bf16} {xs6 : Vec F S256x128 .f32}

set_option maxHeartbeats 4000000 in
theorem codesB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.2.1
    = [⟨Rect.unit (s := S256x1792) ![0, 0] S256x1792.size inb_S256x1792_S256x1792_0_0, k0_pay45 (rd arg2 harg2 x1 (dyRect i)) (rd arg20 harg20 xs5 (Rect.unit (s := S256x128) ![0, 0] S256x128.size inb_S256x128_S256x128_0_0))⟩] := by
  rfl

set_option maxHeartbeats 4000000 in
theorem dbB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.1
    = [⟨Rect.unit (s := S128x1792) ![0, 0] S128x1792.size inb_S128x1792_S128x1792_0_0, dbOf (rd arg2 harg2 x1 (dyRect i)) (rd arg19 harg19 xs4 (gRect 0)) (rd arg19 harg19 xs4 (gRect 1)) (rd arg17 harg17 xs2 (Rect.unit (s := S128x512) ![0, 0] S128x512.size inb_S128x512_S128x512_0_0))⟩] := by
  rfl

set_option maxHeartbeats 4000000 in
theorem utB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.2.2.2.2.2.2.1
    = [⟨Rect.unit (s := S128x256) ![0, 0] S128x256.size inb_S128x256_S128x256_0_0, k0_pay47 (rd arg2 harg2 x1 (dyRect i)) (rd arg18 harg18 xs3 (Rect.unit (s := S128x256) ![0, 0] S128x256.size inb_S128x256_S128x256_0_0)) (rd arg6 harg6 x5 (Rect.unit (s := S128x1792) ![0, 0] S128x1792.size inb_S128x1792_S128x1792_0_0))⟩] := by
  rfl

set_option maxHeartbeats 4000000 in
theorem accB : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.2.2.2.1
    = accPieces (k0_pay46 (rd arg2 harg2 x1 (dyRect i)) (rd arg20 harg20 xs5 (Rect.unit (s := S256x128) ![0, 0] S256x128.size inb_S256x128_S256x128_0_0))) (wTile i (fun n q => rd arg4 harg4 x3 (sRect i n q)) (fun n q => rd arg3 harg3 x2 (wRect n q))) (fun j => rd arg15 harg15 xs0 (accRect j)) := by
  rfl

end Cert.KernelIdeal.Hand

end
-- ==== Proof.Value.StructC.lean ====
/- The stores of the body at the last point, each as a function of what the body loads. -/
module

public import proofs.«01_k».proof.Proof.Value.Struct

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

variable {c : Dev nD} {i : grid0.Coords} {arg1 : Memref sig .tc .vmem S256x4096 .bf16} {harg1 : arg1.IsWhole} {arg2 : Memref sig .tc .vmem S256x14336 .bf16} {harg2 : arg2.IsWhole} {arg3 : Memref sig .tc .vmem S1792x4096 .fp8e4m3} {harg3 : arg3.IsWhole} {arg4 : Memref sig .tc .smem S32x112 .f32} {harg4 : arg4.IsWhole} {arg5 : Memref sig .tc .vmem S128x4096 .bf16} {harg5 : arg5.IsWhole} {arg6 : Memref sig .tc .vmem S128x1792 .bf16} {harg6 : arg6.IsWhole} {arg7 : Memref sig .tc .vmem S2x256 .i32} {harg7 : arg7.IsWhole} {arg8 : Memref sig .tc .vmem S2x256 .f32} {harg8 : arg8.IsWhole} {arg9 : Memref sig .tc .vmem S256x4096 .bf16} {harg9 : arg9.IsWhole} {arg10 : Memref sig .tc .vmem S128x4096 .f32} {harg10 : arg10.IsWhole} {arg11 : Memref sig .tc .vmem S128x1792 .f32} {harg11 : arg11.IsWhole} {arg12 : Memref sig .tc .vmem S2x256 .f32} {harg12 : arg12.IsWhole} {arg13 : Memref sig .tc .vmem S256x1792 .fp8e5m2} {harg13 : arg13.IsWhole} {arg14 : Memref sig .tc .vmem S1x256 .f32} {harg14 : arg14.IsWhole} {arg15 : Memref sig .tc .vmem S256x4096 .f32} {harg15 : arg15.IsWhole} {arg16 : Memref sig .tc .vmem S128x256 .f32} {harg16 : arg16.IsWhole} {arg17 : Memref sig .tc .vmem S128x512 .bf16} {harg17 : arg17.IsWhole} {arg18 : Memref sig .tc .vmem S128x256 .f32} {harg18 : arg18.IsWhole} {arg19 : Memref sig .tc .vmem S256x8 .f32} {harg19 : arg19.IsWhole} {arg20 : Memref sig .tc .vmem S256x128 .bf16} {harg20 : arg20.IsWhole} {arg21 : Memref sig .tc .vmem S256x128 .f32} {harg21 : arg21.IsWhole} {hc0 : ¬cond0_0 i} {hc1 : cond0_1 i}
        {x0 : Vec F S256x4096 .bf16} {x1 : Vec F S256x14336 .bf16} {x2 : Vec F S1792x4096 .fp8e4m3} {x3 : Vec F S32x112 .f32} {x4 : Vec F S128x4096 .bf16} {x5 : Vec F S128x1792 .bf16} {x6 : Vec F S2x256 .i32} {x7 : Vec F S2x256 .f32} {xs0 : Vec F S256x4096 .f32} {xs1 : Vec F S128x256 .f32} {xs2 : Vec F S128x512 .bf16} {xs3 : Vec F S128x256 .f32} {xs4 : Vec F S256x8 .f32} {xs5 : Vec F S256x128 .bf16} {xs6 : Vec F S256x128 .f32}

set_option maxHeartbeats 4000000 in
theorem codesC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.2.1
    = [⟨Rect.unit (s := S256x1792) ![0, 0] S256x1792.size inb_S256x1792_S256x1792_0_0, k0_pay45 (rd arg2 harg2 x1 (dyRect i)) (rd arg20 harg20 xs5 (Rect.unit (s := S256x128) ![0, 0] S256x128.size inb_S256x128_S256x128_0_0))⟩] := by
  rfl

set_option maxHeartbeats 4000000 in
theorem dbC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.1
    = [⟨Rect.unit (s := S128x1792) ![0, 0] S128x1792.size inb_S128x1792_S128x1792_0_0, dbOf (rd arg2 harg2 x1 (dyRect i)) (rd arg19 harg19 xs4 (gRect 0)) (rd arg19 harg19 xs4 (gRect 1)) (rd arg17 harg17 xs2 (Rect.unit (s := S128x512) ![0, 0] S128x512.size inb_S128x512_S128x512_0_0))⟩] := by
  rfl

set_option maxHeartbeats 4000000 in
theorem utC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.2.2.2.2.2.1
    = [⟨Rect.unit (s := S128x256) ![0, 0] S128x256.size inb_S128x256_S128x256_0_0, k0_pay47 (rd arg2 harg2 x1 (dyRect i)) (rd arg18 harg18 xs3 (Rect.unit (s := S128x256) ![0, 0] S128x256.size inb_S128x256_S128x256_0_0)) (rd arg6 harg6 x5 (Rect.unit (s := S128x1792) ![0, 0] S128x1792.size inb_S128x1792_S128x1792_0_0))⟩] := by
  rfl

set_option maxHeartbeats 4000000 in
theorem accC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.2.2.1
    = accPieces (k0_pay46 (rd arg2 harg2 x1 (dyRect i)) (rd arg20 harg20 xs5 (Rect.unit (s := S256x128) ![0, 0] S256x128.size inb_S256x128_S256x128_0_0))) (wTile i (fun n q => rd arg4 harg4 x3 (sRect i n q)) (fun n q => rd arg3 harg3 x2 (wRect n q))) (fun j => rd arg15 harg15 xs0 (accRect j)) := by
  rfl

/-- `u` after the last chunk, as the point reads it back. -/
abbrev uRead (i : grid0.Coords) (arg2 : Memref sig .tc .vmem S256x14336 .bf16) (harg2 : arg2.IsWhole) (arg6 : Memref sig .tc .vmem S128x1792 .bf16) (harg6 : arg6.IsWhole) (arg18 : Memref sig .tc .vmem S128x256 .f32) (harg18 : arg18.IsWhole) (x1 : Vec F S256x14336 .bf16) (x5 : Vec F S128x1792 .bf16) (xs3 : Vec F S128x256 .f32) : Vec F S128x256 .f32 :=
  arg18.view.readCov [⟨Rect.unit (s := S128x256) ![0, 0] S128x256.size inb_S128x256_S128x256_0_0, k0_pay47 (rd arg2 harg2 x1 (dyRect i)) (rd arg18 harg18 xs3 (Rect.unit (s := S128x256) ![0, 0] S128x256.size inb_S128x256_S128x256_0_0)) (rd arg6 harg6 x5 (Rect.unit (s := S128x1792) ![0, 0] S128x1792.size inb_S128x1792_S128x1792_0_0))⟩] (Rect.unit (s := S128x256) ![0, 0] S128x256.size inb_S128x256_S128x256_0_0).toLoadRect

set_option maxHeartbeats 4000000 in
theorem dgateC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.2.2.1
    = [⟨rowRect 1, k0_pay29 iot (uRead i arg2 harg2 arg6 harg6 arg18 harg18 x1 x5 xs3) (rd arg16 harg16 xs1 (Rect.unit (s := S128x256) ![0, 0] S128x256.size inb_S128x256_S128x256_0_0)) (rd arg7 harg7 x6 (rowRect 1))⟩, ⟨rowRect 0, k0_pay29 iot (uRead i arg2 harg2 arg6 harg6 arg18 harg18 x1 x5 xs3) (rd arg16 harg16 xs1 (Rect.unit (s := S128x256) ![0, 0] S128x256.size inb_S128x256_S128x256_0_0)) (rd arg7 harg7 x6 (rowRect 0))⟩] := by
  rfl

set_option maxHeartbeats 4000000 in
theorem daC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).2.1
    = [⟨Rect.unit (s := S128x4096) ![0, 0] S128x4096.size inb_S128x4096_S128x4096_0_0, daOf (k0_pay30 iot (uRead i arg2 harg2 arg6 harg6 arg18 harg18 x1 x5 xs3) (rd arg7 harg7 x6 (rowRect 0)) (rd arg8 harg8 x7 (rowRect 0))) (k0_pay30 iot (uRead i arg2 harg2 arg6 harg6 arg18 harg18 x1 x5 xs3) (rd arg7 harg7 x6 (rowRect 1)) (rd arg8 harg8 x7 (rowRect 1))) (rd arg1 harg1 x0 (Rect.unit (s := S256x4096) ![0, 0] S256x4096.size inb_S256x4096_S256x4096_0_0))⟩] := by
  rfl

set_option maxHeartbeats 4000000 in
theorem dxC : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 xs0 xs1 xs2 xs3 xs4 xs5 xs6).1
    = dxPieces (guOf (k0_pay30 iot (uRead i arg2 harg2 arg6 harg6 arg18 harg18 x1 x5 xs3) (rd arg7 harg7 x6 (rowRect 0)) (rd arg8 harg8 x7 (rowRect 0))) (k0_pay30 iot (uRead i arg2 harg2 arg6 harg6 arg18 harg18 x1 x5 xs3) (rd arg7 harg7 x6 (rowRect 1)) (rd arg8 harg8 x7 (rowRect 1)))) (rd arg21 harg21 xs6 (Rect.unit (s := S256x128) ![0, 0] S256x128.size inb_S256x128_S256x128_0_0)) (fun j => rd arg5 harg5 x4 (aRect j)) (fun j => arg15.view.readCov (accPieces (k0_pay46 (rd arg2 harg2 x1 (dyRect i)) (rd arg20 harg20 xs5 (Rect.unit (s := S256x128) ![0, 0] S256x128.size inb_S256x128_S256x128_0_0))) (wTile i (fun n q => rd arg4 harg4 x3 (sRect i n q)) (fun n q => rd arg3 harg3 x2 (wRect n q))) (fun j => rd arg15 harg15 xs0 (accRect j))) (accRect j).toLoadRect) := by
  rfl

end Cert.KernelIdeal.Hand

end
-- ==== Proof.Value.Fields.lean ====
/- What each point of the kernel leaves in its scratch and its output buffers, as the payloads of the blocks it reads. -/
module

public import proofs.«01_k».proof.Proof.Value.PayK
public import proofs.«01_k».proof.Proof.Value.KArgs
public import proofs.«01_k».proof.Proof.Value.StructA
public import proofs.«01_k».proof.Proof.Value.StructB
public import proofs.«01_k».proof.Proof.Value.StructC

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD) (t : Fin cfg0.N)
variable (a0 : cond0_0 (grid0.coords t)) (b0 : ¬cond0_0 (grid0.coords t)) (a1 : cond0_1 (grid0.coords t)) (b1 : ¬cond0_1 (grid0.coords t)) (s : Sc Ideal)

/-- A point's columns of `dy`, and its tiles of the weight. -/
abbrev dyk : Vec Ideal S256x1792 .bf16 := View.ld (iblk m c 1 t : Vec Ideal S256x14336 .bf16) (dyRect (grid0.coords t))
abbrev wt (j : Fin 8) : FVec Ideal S1792x512 .bf16 :=
  wTile (grid0.coords t) (fun n q => View.ld (iblk m c 3 t : Vec Ideal S32x112 .f32) (sRect (grid0.coords t) n q)) (fun n q => View.ld (iblk m c 2 t : Vec Ideal S1792x4096 .fp8e4m3) (wRect n q)) j
/-- The exponent fields of the rows. -/
abbrev bk : IVec S256x1 32 := bexp (amax (fun n => View.ld (iblk m c 1 t : Vec Ideal S256x14336 .bf16) (dyCol n)) 111 (by decide))
abbrev irow (j : Fin 2) : Vec Ideal S1x256 .i32 := View.ld (iblk m c 6 t : Vec Ideal S2x256 .i32) (rowRect j)
abbrev grow (j : Fin 2) : Vec Ideal S1x256 .f32 := View.ld (iblk m c 7 t : Vec Ideal S2x256 .f32) (rowRect j)

theorem rd_ld {sp : Space} {s : Shape} {e : EltTy} (M : Memref sig .tc sp s e) (h : M.IsWhole) (X : Vec Ideal s e) (R : Rect s) :
    rd M h X R = View.ld X R := rd_eq M h X R

theorem bx_eq : bx (ms0_1 t) (hs0_1 t) (iblk m c 1 t) = bk m c t := by
  unfold bx bk
  congr 2
  funext n
  exact rd_eq _ _ _ _

theorem scA_ht : (scA m c t a0 b1).ht = k0_pay4 (iblk m c 4 t) (iblk m c 0 t) := by
  unfold scA
  simp only
  rw [View.read_writes_junk_eq_canon, htA, View.canon_unit_zero z2, rd_ld, rd_ld, ld_whole _ z2, ld_whole _ z2]

theorem scA_gcol : (scA m c t a0 b1).gcol = k0_pay8 (k0_pay7 (iblk m c 7 t)) (Scalar.ofBits .f32 0x00000000#32) := by
  unfold scA
  simp only
  rw [View.read_writes_junk_eq_canon, gcolA, View.canon_unit_zero z2, rd_ld, ld_whole _ z2]

theorem scA_inv : (scA m c t a0 b1).inv = k0_pay24 (F := Ideal) (isZ (bk m c t)) (expo (bk m c t)) := by
  unfold scA
  simp only
  rw [View.read_writes_junk_eq_canon, invA, View.canon_unit_zero z2, bx_eq]

theorem scA_scol : (scA m c t a0 b1).scol = k0_pay23 (F := Ideal) (isZ (bk m c t)) (expo (bk m c t)) := by
  unfold scA
  simp only
  rw [View.read_writes_junk_eq_canon, scolA, View.canon_unit_zero z2, bx_eq]

theorem out13_eq : out13 m c = k0_pay25 (F := Ideal) (isZ (bk m c ⟨0, by decide⟩)) (expo (bk m c ⟨0, by decide⟩)) := by
  unfold out13
  rw [View.read_writes_junk_eq_canon, scaleA, View.canon_unit_zero z2, bx_eq]

/-- The two halves of the routed `h`. -/
theorem scA_hm (j : Fin 2) (g : Fin 128) (p : Fin 256) :
    (scA m c t a0 b1).hm (ix2 g ⟨256 * j.val + p.val, by omega⟩) = k0_pay5 iot (iblk m c 4 t) (iblk m c 0 t) (irow m c t j) (ix2 g p) := by
  have e : (scA m c t a0 b1).hm = View.canon (Val := Elt Ideal) (e := .bf16) [⟨hmRect 1, k0_pay5 iot (iblk m c 4 t) (iblk m c 0 t) (irow m c t 1)⟩, ⟨hmRect 0, k0_pay5 iot (iblk m c 4 t) (iblk m c 0 t) (irow m c t 0)⟩] := by
    unfold scA
    simp only
    rw [View.read_writes_junk_eq_canon, hmA]
    rw [rd_ld, rd_ld, rd_ld, rd_ld, ld_whole _ z2, ld_whole _ z2]
    rfl
  rw [e]
  have e1 : ∀ (k : Fin 2) (g : Fin 128) (p : Fin 256), (ix2 g ⟨256 * k.val + p.val, by omega⟩ : S128x512.Idx) = (hmRect k).emb (ix2 g p) := fun k g p =>
    Shape.idx_ext₂ (show g.val = 0 + 1 * g.val by omega) (show 256 * k.val + p.val = 256 * k.val + 1 * p.val by omega)
  match j with
  | ⟨1, _⟩ => exact (congrArg _ (e1 1 g p)).trans (View.canon_cons_emb (Val := Elt Ideal) (e := .bf16) _ _ _ _)
  | ⟨0, _⟩ =>
    refine (View.canon_cons_of_not_mem (Val := Elt Ideal) (e := .bf16) _ _ fun h => ?_).trans ((congrArg _ (e1 0 g p)).trans (View.canon_cons_emb (Val := Elt Ideal) (e := .bf16) _ _ _ _))
    obtain ⟨x, hx⟩ := (hmRect 1).exists_idx_of_mem h
    have h2 : 256 * 1 + 1 * (x 1).val = 256 * 0 + p.val := congrArg Fin.val (congrFun hx 1)
    omega

theorem scA_ut : (scA m c t a0 b1).ut = k0_pay47 (dyk m c t) (k0_pay26 (F := Ideal)) (iblk m c 5 t) := by
  unfold scA
  simp only
  rw [View.read_writes_junk_eq_canon, utA, View.canon_cons_unit_zero z2, View.readCov_unit_zero _ z2, rd_ld, rd_ld, ld_whole _ z2]
  rfl

theorem scB_ut : (scB m c t b0 b1 s).ut = k0_pay47 (dyk m c t) s.ut (iblk m c 5 t) := by
  unfold scB
  simp only
  rw [View.read_writes_junk_eq_canon, utB, View.canon_unit_zero z2, rd_ld, rd_ld, rd_ld, ld_whole _ z2, ld_whole _ z2]
  rfl

theorem scC_ut : (scC m c t b0 a1 s).ut = k0_pay47 (dyk m c t) s.ut (iblk m c 5 t) := by
  unfold scC
  simp only
  rw [View.read_writes_junk_eq_canon, utC, View.canon_unit_zero z2, rd_ld, rd_ld, rd_ld, ld_whole _ z2, ld_whole _ z2]
  rfl

theorem rd_tiles {sp sp' : Space} (M : Memref sig .tc sp S32x112 .f32) (h : M.IsWhole) (M' : Memref sig .tc sp' S1792x4096 .fp8e4m3) (h' : M'.IsWhole) (x3 : Vec Ideal S32x112 .f32) (x2 : Vec Ideal S1792x4096 .fp8e4m3) (i : grid0.Coords) :
    wTile i (fun n q => rd M h x3 (sRect i n q)) (fun n q => rd M' h' x2 (wRect n q)) = wTile i (fun n q => View.ld x3 (sRect i n q)) (fun n q => View.ld x2 (wRect n q)) := by
  congr 1
  · funext n q; exact rd_eq _ _ _ _
  · funext n q; exact rd_eq _ _ _ _

theorem scA_acc : (scA m c t a0 b1).acc = View.canon (Val := Elt Ideal) (e := .f32) (accZ scM0_0.view (k0_pay45 (dyk m c t) (scA m c t a0 b1).inv) (wt m c t) 8 (by decide)) := by
  rw [scA_inv]
  unfold scA
  simp only
  rw [View.read_writes_junk_eq_canon, accA, View.readCov_unit_zero _ z2, rd_tiles, pay46_eq, rd_ld, bx_eq]
  rfl

theorem scB_acc : (scB m c t b0 b1 s).acc = View.canon (Val := Elt Ideal) (e := .f32) (accPieces (k0_pay45 (dyk m c t) s.inv) (wt m c t) (fun j => View.ld s.acc (accRect j))) := by
  unfold scB
  simp only
  rw [View.read_writes_junk_eq_canon, accB, rd_tiles, pay46_eq, rd_ld, rd_ld, ld_whole _ z2]
  congr 2
  funext j
  exact rd_eq _ _ _ _

theorem scC_acc : (scC m c t b0 a1 s).acc = View.canon (Val := Elt Ideal) (e := .f32) (accPieces (k0_pay45 (dyk m c t) s.inv) (wt m c t) (fun j => View.ld s.acc (accRect j))) := by
  unfold scC
  simp only
  rw [View.read_writes_junk_eq_canon, accC, rd_tiles, pay46_eq, rd_ld, rd_ld, ld_whole _ z2]
  congr 2
  funext j
  exact rd_eq _ _ _ _

end Cert.KernelIdeal.Hand

end
-- ==== Proof.Value.Outs.lean ====
/- What each point of the kernel writes to its outputs, over the scratch it leaves. -/
module

public import proofs.«01_k».proof.Proof.Value.Fields

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD) (t : Fin cfg0.N)

/-- The scratch point `t` leaves. -/
@[irreducible] def sc (t : Fin cfg0.N) : Sc Ideal := scAt m c t.val t.isLt

theorem sc_A (h0 : t.val = 0) : sc m c t = scA m c t (tc0 t h0) (tn7 t (by omega)) := by unfold sc; exact scAt_A m c t h0 _ _
theorem sc_B (h0 : ¬t.val = 0) (h1 : ¬t.val = 7) : sc m c t = scB m c t (tn0 t h0) (tn7 t h1) (scAt m c (t.val - 1) (pred_lt t)) := by unfold sc; exact scAt_B m c t h0 h1 _ _
theorem sc_C (h0 : ¬t.val = 0) (h1 : t.val = 7) : sc m c t = scC m c t (tn0 t h0) (tc7 t h1) (scAt m c (t.val - 1) (pred_lt t)) := by unfold sc; exact scAt_C m c t h0 h1 _ _

section Generic
variable (a0 : cond0_0 (grid0.coords t)) (b0 : ¬cond0_0 (grid0.coords t)) (a1 : cond0_1 (grid0.coords t)) (b1 : ¬cond0_1 (grid0.coords t)) (s : Sc Ideal)

theorem o12A : VO0_12.read (Elt Ideal) (VO0_12.writes (Elt Ideal) VO0_12.junk (rA m c t a0 b1).2.2.2.2.1) = k0_pay45 (dyk m c t) (scA m c t a0 b1).inv := by
  rw [scA_inv, View.read_writes_junk_eq_canon, codesA, View.canon_unit_zero z2, View.readCov_unit_zero _ z2, rd_ld, bx_eq]
  rfl

theorem o12B : VO0_12.read (Elt Ideal) (VO0_12.writes (Elt Ideal) VO0_12.junk (rB m c t b0 b1 s).2.2.2.2.1) = k0_pay45 (dyk m c t) (scB m c t b0 b1 s).inv := by
  rw [View.read_writes_junk_eq_canon, codesB, View.canon_unit_zero z2, rd_ld, rd_ld, ld_whole _ z2]
  rfl

theorem o12C : VO0_12.read (Elt Ideal) (VO0_12.writes (Elt Ideal) VO0_12.junk (rC m c t b0 a1 s).2.2.2.2.1) = k0_pay45 (dyk m c t) (scC m c t b0 a1 s).inv := by
  rw [View.read_writes_junk_eq_canon, codesC, View.canon_unit_zero z2, rd_ld, rd_ld, ld_whole _ z2]
  rfl

theorem scA_hmC : (scA m c t a0 b1).hm = View.canon (Val := Elt Ideal) (e := .bf16) [⟨hmRect 1, k0_pay5 iot (iblk m c 4 t) (iblk m c 0 t) (irow m c t 1)⟩, ⟨hmRect 0, k0_pay5 iot (iblk m c 4 t) (iblk m c 0 t) (irow m c t 0)⟩] := by
  unfold scA
  simp only
  rw [View.read_writes_junk_eq_canon, hmA]
  rw [rd_ld, rd_ld, rd_ld, rd_ld, ld_whole _ z2, ld_whole _ z2]
  rfl

theorem readCov_ld {sp : Space} {S : Shape} {e : EltTy} (v : View sig .tc sp S e) (L : List (View.Piece (Elt Ideal) S e)) (R : Rect S) :
    v.readCov L R.toLoadRect = View.ld (View.canon L) R := View.readCov_eq_canon' _ _ _

theorem o10A : VO0_10.read (Elt Ideal) (VO0_10.writes (Elt Ideal) VO0_10.junk (rA m c t a0 b1).2.2.1)
    = dbOf (dyk m c t) (View.ld (scA m c t a0 b1).gcol (gRect 0)) (View.ld (scA m c t a0 b1).gcol (gRect 1)) (scA m c t a0 b1).hm := by
  rw [scA_gcol, scA_hmC, View.read_writes_junk_eq_canon, dbA, View.canon_unit_zero z2, readCov_ld, readCov_ld, readCov_ld, View.canon_unit_zero z2, ld_whole _ z2]
  rw [rd_ld, rd_ld, rd_ld, rd_ld, rd_ld, rd_ld, ld_whole _ z2, ld_whole _ z2, ld_whole _ z2]
  rfl

theorem o10B : VO0_10.read (Elt Ideal) (VO0_10.writes (Elt Ideal) VO0_10.junk (rB m c t b0 b1 s).2.2.1)
    = dbOf (dyk m c t) (View.ld (scB m c t b0 b1 s).gcol (gRect 0)) (View.ld (scB m c t b0 b1 s).gcol (gRect 1)) (scB m c t b0 b1 s).hm := by
  rw [View.read_writes_junk_eq_canon, dbB, View.canon_unit_zero z2, rd_ld, rd_ld, rd_ld, rd_ld, ld_whole _ z2]
  rfl

theorem o10C : VO0_10.read (Elt Ideal) (VO0_10.writes (Elt Ideal) VO0_10.junk (rC m c t b0 a1 s).2.2.1)
    = dbOf (dyk m c t) (View.ld (scC m c t b0 a1 s).gcol (gRect 0)) (View.ld (scC m c t b0 a1 s).gcol (gRect 1)) (scC m c t b0 a1 s).hm := by
  rw [View.read_writes_junk_eq_canon, dbC, View.canon_unit_zero z2, rd_ld, rd_ld, rd_ld, rd_ld, ld_whole _ z2]
  rfl

theorem oRead : uRead (grid0.coords t) (ms0_1 t) (hs0_1 t) (ms0_5 t) (hs0_5 t) scM0_3 (Memref.isWhole_whole _) (iblk m c 1 t) (iblk m c 5 t) s.ut = (scC m c t b0 a1 s).ut := by
  rw [scC_ut]
  unfold uRead
  rw [View.readCov_unit_zero _ z2, rd_ld, rd_ld, rd_ld, ld_whole _ z2, ld_whole _ z2]
  rfl

/-- A routed and gated half of `u`. -/
abbrev guT (u : Vec Ideal S128x256 .f32) (j : Fin 2) : FVec Ideal S128x256 .bf16 := k0_pay30 iot u (irow m c t j) (grow m c t j)

theorem o9C : VO0_9.read (Elt Ideal) (VO0_9.writes (Elt Ideal) VO0_9.junk (rC m c t b0 a1 s).2.1)
    = daOf (guT m c t (scC m c t b0 a1 s).ut 0) (guT m c t (scC m c t b0 a1 s).ut 1) (iblk m c 0 t) := by
  rw [View.read_writes_junk_eq_canon, daC, View.canon_unit_zero z2, oRead m c t b0 a1 s, rd_ld, rd_ld, rd_ld, rd_ld, rd_ld, ld_whole _ z2]
  rfl

theorem o11C : VO0_11.read (Elt Ideal) (VO0_11.writes (Elt Ideal) VO0_11.junk (rC m c t b0 a1 s).2.2.2.1)
    = View.canon (Val := Elt Ideal) (e := .f32) [⟨rowRect 1, k0_pay29 iot (scC m c t b0 a1 s).ut (scC m c t b0 a1 s).ht (irow m c t 1)⟩, ⟨rowRect 0, k0_pay29 iot (scC m c t b0 a1 s).ut (scC m c t b0 a1 s).ht (irow m c t 0)⟩] := by
  rw [View.read_writes_junk_eq_canon, dgateC, oRead m c t b0 a1 s, rd_ld, rd_ld, rd_ld, ld_whole _ z2]
  rfl

theorem o8C : VO0_8.read (Elt Ideal) (VO0_8.writes (Elt Ideal) VO0_8.junk (rC m c t b0 a1 s).1)
    = View.canon (Val := Elt Ideal) (e := .bf16) (dxPieces (guOf (guT m c t (scC m c t b0 a1 s).ut 0) (guT m c t (scC m c t b0 a1 s).ut 1)) (scC m c t b0 a1 s).scol
    (fun j => View.ld (iblk m c 4 t : Vec Ideal S128x4096 .bf16) (aRect j)) (fun j => View.ld (scC m c t b0 a1 s).acc (accRect j))) := by
  rw [View.read_writes_junk_eq_canon, dxC, oRead m c t b0 a1 s, rd_ld, rd_ld, rd_ld, rd_ld, rd_ld, ld_whole _ z2, scC_acc, rd_tiles, pay46_eq, rd_ld, rd_ld, ld_whole _ z2]
  have e1 : (fun j => rd (ms0_4 t) (hs0_4 t) (iblk m c 4 t : Vec Ideal S128x4096 .bf16) (aRect j)) = fun j => View.ld (iblk m c 4 t : Vec Ideal S128x4096 .bf16) (aRect j) := by
    funext j; exact rd_eq _ _ _ _
  have e2 : (fun j => rd scM0_0 (Memref.isWhole_whole _) s.acc (accRect j)) = fun j => View.ld s.acc (accRect j) := by
    funext j; exact rd_eq _ _ _ _
  rw [e1, e2]
  have e3 : ∀ L : List (View.Piece (Elt Ideal) S256x4096 .f32), (fun j => scM0_0.view.readCov L (accRect j).toLoadRect) = fun j => View.ld (View.canon L) (accRect j) := fun L => by
    funext j; exact View.readCov_eq_canon' _ _ _
  rw [e3]
  rfl

end Generic

theorem out12_eq_A (h0 : t.val = 0) : out12 m c t = k0_pay45 (dyk m c t) (sc m c t).inv := by
  have hs := sc_A m c t h0
  generalize sc m c t = s at hs
  subst hs
  unfold out12
  rw [dif_pos h0]
  exact o12A m c t _ _

theorem out12_eq_C (h0 : ¬t.val = 0) (h1 : t.val = 7) : out12 m c t = k0_pay45 (dyk m c t) (sc m c t).inv := by
  have hs := sc_C m c t h0 h1
  generalize sc m c t = s at hs
  subst hs
  unfold out12
  rw [dif_neg h0, dif_pos h1]
  exact o12C m c t _ _ _

theorem out12_eq_B (h0 : ¬t.val = 0) (h1 : ¬t.val = 7) : out12 m c t = k0_pay45 (dyk m c t) (sc m c t).inv := by
  have hs := sc_B m c t h0 h1
  generalize sc m c t = s at hs
  subst hs
  unfold out12
  rw [dif_neg h0, dif_neg h1]
  exact o12B m c t _ _ _

theorem out12_eq : out12 m c t = k0_pay45 (dyk m c t) (sc m c t).inv := by
  by_cases h0 : t.val = 0
  · exact out12_eq_A m c t h0
  by_cases h1 : t.val = 7
  · exact out12_eq_C m c t h0 h1
  · exact out12_eq_B m c t h0 h1

theorem out10_eq_A (h0 : t.val = 0) : out10 m c t = dbOf (dyk m c t) (View.ld (sc m c t).gcol (gRect 0)) (View.ld (sc m c t).gcol (gRect 1)) (sc m c t).hm := by
  have hs := sc_A m c t h0
  generalize sc m c t = s at hs
  subst hs
  unfold out10
  rw [dif_pos h0]
  exact o10A m c t _ _

theorem out10_eq_C (h0 : ¬t.val = 0) (h1 : t.val = 7) : out10 m c t = dbOf (dyk m c t) (View.ld (sc m c t).gcol (gRect 0)) (View.ld (sc m c t).gcol (gRect 1)) (sc m c t).hm := by
  have hs := sc_C m c t h0 h1
  generalize sc m c t = s at hs
  subst hs
  unfold out10
  rw [dif_neg h0, dif_pos h1]
  exact o10C m c t _ _ _

theorem out10_eq_B (h0 : ¬t.val = 0) (h1 : ¬t.val = 7) : out10 m c t = dbOf (dyk m c t) (View.ld (sc m c t).gcol (gRect 0)) (View.ld (sc m c t).gcol (gRect 1)) (sc m c t).hm := by
  have hs := sc_B m c t h0 h1
  generalize sc m c t = s at hs
  subst hs
  unfold out10
  rw [dif_neg h0, dif_neg h1]
  exact o10B m c t _ _ _

theorem out10_eq : out10 m c t = dbOf (dyk m c t) (View.ld (sc m c t).gcol (gRect 0)) (View.ld (sc m c t).gcol (gRect 1)) (sc m c t).hm := by
  by_cases h0 : t.val = 0
  · exact out10_eq_A m c t h0
  by_cases h1 : t.val = 7
  · exact out10_eq_C m c t h0 h1
  · exact out10_eq_B m c t h0 h1

variable (h7 : t.val = 7)
include h7

/-- The two routed and gated halves of `u`. -/
abbrev gu (j : Fin 2) : FVec Ideal S128x256 .bf16 := k0_pay30 iot (sc m c t).ut (irow m c t j) (grow m c t j)

theorem out9_eq : out9 m c t = daOf (gu m c t 0) (gu m c t 1) (iblk m c 0 t) :=
  (dif_pos h7).trans ((o9C m c t _ _ _).trans (congrArg (fun s : Sc Ideal => daOf (guT m c t s.ut 0) (guT m c t s.ut 1) (iblk m c 0 t)) (sc_C m c t (by omega) h7).symm))

theorem out11_eq (j : Fin 2) (p : Fin 256) : out11 m c t (ix2 j p) = k0_pay29 iot (sc m c t).ut (sc m c t).ht (irow m c t j) (ix2 0 p) := by
  have e : out11 m c t = View.canon (Val := Elt Ideal) (e := .f32) [⟨rowRect 1, k0_pay29 iot (sc m c t).ut (sc m c t).ht (irow m c t 1)⟩, ⟨rowRect 0, k0_pay29 iot (sc m c t).ut (sc m c t).ht (irow m c t 0)⟩] :=
    (dif_pos h7).trans ((o11C m c t _ _ _).trans (congrArg (fun s : Sc Ideal => View.canon (Val := Elt Ideal) (e := .f32) [⟨rowRect 1, k0_pay29 iot s.ut s.ht (irow m c t 1)⟩, ⟨rowRect 0, k0_pay29 iot s.ut s.ht (irow m c t 0)⟩]) (sc_C m c t (by omega) h7).symm))
  rw [e]
  have e1 : ∀ (k : Fin 2) (p : Fin 256), (ix2 k p : S2x256.Idx) = (rowRect k).emb (ix2 0 p) := fun k p =>
    Shape.idx_ext₂ (show k.val = k.val + 1 * 0 by omega) (show p.val = 0 + 1 * p.val by omega)
  match j with
  | ⟨1, _⟩ => exact (congrArg _ (e1 1 p)).trans (View.canon_cons_emb (Val := Elt Ideal) (e := .f32) _ _ _ _)
  | ⟨0, _⟩ =>
    refine (View.canon_cons_of_not_mem (Val := Elt Ideal) (e := .f32) _ _ fun h => ?_).trans ((congrArg _ (e1 0 p)).trans (View.canon_cons_emb (Val := Elt Ideal) (e := .f32) _ _ _ _))
    obtain ⟨x, hx⟩ := (rowRect 1).exists_idx_of_mem h
    have h2 : 1 + 1 * (x 0).val = 0 := congrArg Fin.val (congrFun hx 0)
    omega

theorem out8_eq : out8 m c t = View.canon (Val := Elt Ideal) (e := .bf16) (dxPieces (guOf (gu m c t 0) (gu m c t 1)) (sc m c t).scol
    (fun j => View.ld (iblk m c 4 t : Vec Ideal S128x4096 .bf16) (aRect j)) (fun j => View.ld (sc m c t).acc (accRect j))) :=
  (dif_pos h7).trans ((o8C m c t _ _ _).trans (congrArg (fun s : Sc Ideal => View.canon (Val := Elt Ideal) (e := .bf16) (dxPieces (guOf (guT m c t s.ut 0) (guT m c t s.ut 1)) s.scol
    (fun j => View.ld (iblk m c 4 t : Vec Ideal S128x4096 .bf16) (aRect j)) (fun j => View.ld s.acc (accRect j)))) (sc_C m c t (by omega) h7).symm))

end Cert.KernelIdeal.Hand

end
-- ==== Proof.Value.Points.lean ====
/- What the kernel's scratch holds after each point, and what each point writes, in the arguments. -/
module

public import proofs.«01_k».proof.Proof.Value.AccLem
public import proofs.«01_k».proof.Proof.Value.Outs

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD) (t : Fin cfg0.N)

theorem dyk_at (p : Fin 256) (q : Fin 1792) : dyk m c t (ix2 p q) = (args m c).dy p (at' t q) := by
  refine (View.ld_unit_apply_of (iblk m c 1 t : Vec Ideal S256x14336 .bf16) (k0_off1 (grid0.coords t)) S256x1792.size _ (ix2 p q) (ix2 p (at' t q)) ?_).trans (x1_at m c t p (at' t q))
  intro a
  refine Eq.trans ?_ (congrArg (· + _) (congrFun (off1 t).symm a))
  fin_cases a
  · show p.val = 0 + p.val
    omega
  · rfl

theorem wt_at (j : Fin 8) (q : Fin 1792) (d : Fin 512) : wt m c t j (ix2 q d) = Spec.wd (args m c) (at' t q) ⟨512 * j.val + d.val, by omega⟩ := by
  have ht : t.val < 8 := lt_of_lt_of_eq t.isLt N_0
  refine (wTile_at (grid0.coords t) (iblk m c 3 t) (iblk m c 2 t) j q d (by rw [coord]; exact ht)).trans ?_
  rw [x2_at, x3_at]
  unfold Spec.wd
  congr 2
  · exact Fin.ext (by show 14 * (grid0.coords t 0).val + q.val / 128 = (1792 * t.val + q.val) / 128; rw [coord]; omega)
  · exact Fin.ext (by show 4 * j.val + d.val / 128 = (512 * j.val + d.val) / 128; omega)

theorem irow_at (j : Fin 2) (p : Fin 256) : irow m c t j (ix2 0 p) = (args m c).idx p j :=
  (congrArg (iblk m c 6 t : Vec Ideal S2x256 .i32) (Shape.idx_ext₂ (show j.val + 1 * 0 = j.val by omega) (show 0 + 1 * p.val = p.val by omega))).trans (x6_at m c t j p)

theorem grow_at (j : Fin 2) (p : Fin 256) : grow m c t j (ix2 0 p) = (args m c).g p j :=
  (congrArg (iblk m c 7 t : Vec Ideal S2x256 .f32) (Shape.idx_ext₂ (show j.val + 1 * 0 = j.val by omega) (show 0 + 1 * p.val = p.val by omega))).trans (x7_at m c t j p)

theorem bk_at (p : Fin 256) : bk m c t (ix2 p 0) = Spec.below (Spec.quot (args m c) p) :=
  bexp_row (args m c) (iblk m c 1 t) (x1_at m c t) p

variable (hq : ∀ p, 0 ≤ Spec.quot (args m c) p ∧ Spec.quot (args m c) p < Spec.q 240)
include hq

theorem scol_at (p : Fin 256) (l : Fin 128) : (k0_pay23 (isZ (bk m c t)) (expo (bk m c t)) : FVec Ideal S256x128 .f32) (ix2 p l) = Spec.scale (args m c) p := by
  rw [pay23_at]
  show Spec.kScale (bk m c t (ix2 p 0)) = _
  rw [bk_at]
  exact (Spec.scale_eq _ (hq p).1 (hq p).2).1

theorem inv_at (p : Fin 256) (l : Fin 128) : (k0_pay24 (isZ (bk m c t)) (expo (bk m c t)) : FVec Ideal S256x128 .bf16) (ix2 p l) = Ideal.div (Ideal.ofBits .f32 1065353216#32) (Spec.scale (args m c) p) := by
  rw [pay24_at]
  show Spec.kInv (bk m c t (ix2 p 0)) = _
  rw [bk_at]
  exact (Spec.scale_eq _ (hq p).1 (hq p).2).2

theorem out13_at (p : Fin 256) : out13 m c (ix2 0 p) = Spec.scale (args m c) p := by
  have e : ∀ t : Fin cfg0.N, (k0_pay25 (isZ (bk m c t)) (expo (bk m c t)) : FVec Ideal S1x256 .f32) (ix2 0 p) = Spec.scale (args m c) p := fun t => by
    rw [pay25_at]
    show Spec.kScale (bk m c t (ix2 p 0)) = _
    rw [bk_at]
    exact (Spec.scale_eq _ (hq p).1 (hq p).2).1
  exact (congrFun (out13_eq m c) (ix2 0 p)).trans (e _)

omit hq

/-- What the scratch holds after point `n`. -/
structure Inv (A : Spec.Args) (n : ℕ) (hn : n < 8) (s : Sc Ideal) : Prop where
  ht : ∀ g p, s.ht (ix2 g p) = Spec.h A p g
  hm : ∀ (j : Fin 2) (g : Fin 128) (p : Fin 256), s.hm (ix2 g ⟨256 * j.val + p.val, by omega⟩) = Spec.hj A j p g
  gcol : ∀ (p : Fin 256) (j : Fin 2), s.gcol (ix2 p ⟨j.val, by omega⟩) = A.g p j
  ut : ∀ g p, s.ut (ix2 g p) = psum (fun f => A.b f g * A.dy p f) n hn
  inv : ∀ p l, s.inv (ix2 p l) = Ideal.div (Ideal.ofBits .f32 1065353216#32) (Spec.scale A p)
  scol : ∀ p l, s.scol (ix2 p l) = Spec.scale A p
  acc : ∀ p d, s.acc (ix2 p d) = psum (fun f => Spec.codes A p f * Spec.wd A f d) n hn

theorem h_comm (A : Spec.Args) (a : Vec Ideal S128x4096 .bf16) (x : Vec Ideal S256x4096 .bf16) (ha : ∀ g d, a (ix2 g d) = A.a g d) (hx : ∀ p d, x (ix2 p d) = A.x p d) (g : Fin 128) (p : Fin 256) :
    (∑ d : Fin 4096, a (ix2 g d) * x (ix2 p d) : EReal) = Spec.h A p g := by
  unfold Spec.h
  refine Finset.sum_congr rfl fun d _ => ?_
  rw [ha, hx]
  exact mul_comm _ _

theorem cb_at (s : Sc Ideal) (hs : ∀ p l, s.inv (ix2 p l) = Ideal.div (Ideal.ofBits .f32 1065353216#32) (Spec.scale (args m c) p)) (p : Fin 256) (q : Fin 1792) :
    k0_pay45 (dyk m c t) s.inv (ix2 p q) = Spec.codes (args m c) p (at' t q) := by
  rw [pay45_at, dyk_at, hs]
  rfl

theorem u_chunk (A : Spec.Args) (b : Vec Ideal S128x1792 .bf16) (y : Vec Ideal S256x1792 .bf16) (hb : ∀ g q, b (ix2 g q) = A.b (at' t q) g) (hy : ∀ p q, y (ix2 p q) = A.dy p (at' t q))
    (n : ℕ) (hn : n < 8) (e : t.val = n) (g : Fin 128) (p : Fin 256) :
    (∑ q : Fin 1792, b (ix2 g q) * y (ix2 p q) : EReal) = chunk (fun f => A.b f g * A.dy p f) n hn := by
  subst e
  unfold chunk
  refine Finset.sum_congr rfl fun q _ => ?_
  rw [hb, hy]

theorem acc_chunk (n : ℕ) (hn : n < 8) (e : t.val = n) (s : Sc Ideal) (hs : ∀ p l, s.inv (ix2 p l) = Ideal.div (Ideal.ofBits .f32 1065353216#32) (Spec.scale (args m c) p)) (p : Fin 256) (d : Fin 4096) :
    (∑ q : Fin 1792, (k0_pay45 (dyk m c t) s.inv (ix2 p q) * Spec.wd (args m c) (at' t q) d : EReal)) = chunk (fun f => Spec.codes (args m c) p f * Spec.wd (args m c) f d) n hn := by
  subst e
  unfold chunk
  refine Finset.sum_congr rfl fun q _ => ?_
  rw [cb_at m c t s hs]

include hq in
theorem inv_A (a0 : cond0_0 (grid0.coords t)) (b1 : ¬cond0_1 (grid0.coords t)) (h0 : t.val = 0) : Inv (args m c) 0 (by decide) (scA m c t a0 b1) := by
  have hi : ∀ p l, (scA m c t a0 b1).inv (ix2 p l) = Ideal.div (Ideal.ofBits .f32 1065353216#32) (Spec.scale (args m c) p) := fun p l => by
    rw [scA_inv]; exact inv_at m c t hq p l
  refine ⟨fun g p => ?_, fun j g p => ?_, fun p j => ?_, fun g p => ?_, hi, fun p l => ?_, fun p d => ?_⟩
  · rw [scA_ht, pay4_at]; exact h_comm _ (iblk m c 4 t) (iblk m c 0 t) (x4_at m c t) (x0_at m c t) g p
  · rw [scA_hm, pay5_at, irow_at, h_comm (args m c) (iblk m c 4 t) (iblk m c 0 t) (x4_at m c t) (x0_at m c t) g p]
    rfl
  · rw [scA_gcol, gcol_at, dif_pos (show j.val < 2 by omega)]
    exact x7_at m c t j p
  · rw [scA_ut, pay47_at, pay26_at, zero_add]
    exact u_chunk t _ (iblk m c 5 t) (dyk m c t) (x5_at m c t) (dyk_at m c t) 0 _ h0 g p
  · rw [scA_scol]; exact scol_at m c t hq p l
  · rw [scA_acc, accZ_at _ _ (fun q d => Spec.wd (args m c) (at' t q) d) (fun j q d => wt_at m c t j q d), if_pos (by omega)]
    exact acc_chunk m c t 0 _ h0 _ hi p d

theorem inv_B (b0 : ¬cond0_0 (grid0.coords t)) (b1 : ¬cond0_1 (grid0.coords t)) (n : ℕ) (hn : n + 1 < 8) (e : t.val = n + 1) (s : Sc Ideal)
    (h : Inv (args m c) n (Nat.lt_of_succ_lt hn) s) : Inv (args m c) (n + 1) hn (scB m c t b0 b1 s) := by
  refine ⟨h.ht, h.hm, h.gcol, fun g p => ?_, h.inv, h.scol, fun p d => ?_⟩
  · rw [scB_ut, pay47_at, h.ut, u_chunk t (args m c) (iblk m c 5 t) (dyk m c t) (x5_at m c t) (dyk_at m c t) (n + 1) hn e]
    rfl
  · rw [scB_acc, accPieces_at _ _ (fun q d => Spec.wd (args m c) (at' t q) d) (fun j q d => wt_at m c t j q d), h.acc, acc_chunk m c t (n + 1) hn e s h.inv]
    rfl

theorem inv_C (b0 : ¬cond0_0 (grid0.coords t)) (a1 : cond0_1 (grid0.coords t)) (n : ℕ) (hn : n + 1 < 8) (e : t.val = n + 1) (s : Sc Ideal)
    (h : Inv (args m c) n (Nat.lt_of_succ_lt hn) s) : Inv (args m c) (n + 1) hn (scC m c t b0 a1 s) := by
  refine ⟨h.ht, h.hm, h.gcol, fun g p => ?_, h.inv, h.scol, fun p d => ?_⟩
  · rw [scC_ut, pay47_at, h.ut, u_chunk t (args m c) (iblk m c 5 t) (dyk m c t) (x5_at m c t) (dyk_at m c t) (n + 1) hn e]
    rfl
  · rw [scC_acc, accPieces_at _ _ (fun q d => Spec.wd (args m c) (at' t q) d) (fun j q d => wt_at m c t j q d), h.acc, acc_chunk m c t (n + 1) hn e s h.inv]
    rfl

include hq in
theorem inv_all (n : ℕ) (hn : n < 8) : ∀ t : Fin cfg0.N, t.val = n → Inv (args m c) n hn (sc m c t) := by
  induction n with
  | zero =>
    intro t e
    have hs := sc_A m c t e
    generalize sc m c t = s at hs
    subst hs
    exact inv_A m c t hq _ _ e
  | succ n ih =>
    intro t e
    have hprev := ih (Nat.lt_of_succ_lt hn) ⟨t.val - 1, pred_lt t⟩ (show t.val - 1 = n by omega)
    unfold sc at hprev
    by_cases h7 : t.val = 7
    · have hs := sc_C m c t (by omega) h7
      generalize sc m c t = s at hs
      subst hs
      exact inv_C m c t _ _ n hn e _ hprev
    · have hs := sc_B m c t (by omega) h7
      generalize sc m c t = s at hs
      subst hs
      exact inv_B m c t _ _ n hn e _ hprev

include hq in
theorem inv_t : Inv (args m c) t.val (lt_of_lt_of_eq t.isLt N_0) (sc m c t) := inv_all m c hq _ _ t rfl

include hq in
theorem out12_at (p : Fin 256) (q : Fin 1792) : out12 m c t (ix2 p q) = Spec.codes (args m c) p (at' t q) := by
  rw [out12_eq]
  exact cb_at m c t _ (inv_t m c t hq).inv p q

theorem g_ld (s : Sc Ideal) (hs : ∀ (p : Fin 256) (j : Fin 2), s.gcol (ix2 p ⟨j.val, by omega⟩) = (args m c).g p j) (j : Fin 2) (p : Fin 256) :
    View.ld s.gcol (gRect j) (ix2 p 0) = (args m c).g p j :=
  (congrArg s.gcol (Shape.idx_ext₂ (show 0 + 1 * p.val = p.val by omega) (show j.val + 1 * 0 = j.val by omega))).trans (hs p j)

include hq in
theorem out10_at (g : Fin 128) (q : Fin 1792) : out10 m c t (ix2 g q) = Spec.dB (args m c) g (at' t q) := by
  have hI := inv_t m c t hq
  rw [out10_eq, dbOf_at]
  unfold Spec.dB
  refine congrArg (Spec.two * ·) (congrArg₂ _ (Finset.sum_congr rfl fun p _ => ?_) (Finset.sum_congr rfl fun p _ => ?_))
  · rw [g_ld m c _ hI.gcol 0 p, dyk_at]
    refine congrArg (· * _) (Eq.trans ?_ (hI.hm 0 g p))
    refine congrArg _ (Shape.idx_ext₂ rfl ?_)
    show p.val = 256 * 0 + p.val
    omega
  · rw [g_ld m c _ hI.gcol 1 p, dyk_at]
    exact congrArg (· * _) (hI.hm 1 g p)

variable (h7 : t.val = 7)
include hq h7

theorem u_at (g : Fin 128) (p : Fin 256) : (sc m c t).ut (ix2 g p) = Spec.u (args m c) p g := by
  have hI := inv_all m c hq 7 (by decide) t h7
  rw [hI.ut, psum_all]
  exact Finset.sum_congr rfl fun f _ => mul_comm _ _

theorem gu_at (j : Fin 2) (g : Fin 128) (p : Fin 256) : gu m c t j (ix2 g p) = Spec.gu (args m c) j p g := by
  unfold gu
  rw [pay30_at, irow_at, grow_at, u_at m c t hq h7]
  rfl

theorem out9_at (g : Fin 128) (d : Fin 4096) : out9 m c t (ix2 g d) = Spec.dA (args m c) g d := by
  rw [out9_eq m c t h7, daOf_at]
  unfold Spec.dA
  refine congrArg (Spec.two * ·) (congrArg₂ _ (Finset.sum_congr rfl fun p _ => ?_) (Finset.sum_congr rfl fun p _ => ?_))
  · rw [gu_at m c t hq h7, x0_at]
  · rw [gu_at m c t hq h7, x0_at]

theorem out11_at (j : Fin 2) (p : Fin 256) : out11 m c t (ix2 j p) = Spec.dgate (args m c) j p := by
  have hI := inv_t m c t hq
  rw [out11_eq m c t h7, pay29_at, irow_at]
  unfold Spec.dgate
  refine congrArg (Spec.two * ·) (Finset.sum_congr rfl fun g _ => ?_)
  rw [u_at m c t hq h7, hI.ht]
  rfl

theorem out8_at (p : Fin 256) (d : Fin 4096) : out8 m c t (ix2 p d) = Spec.dx (args m c) p d := by
  have hI := inv_all m c hq 7 (by decide) t h7
  rw [out8_eq m c t h7, dxPieces_at _ _ _ _ (Spec.scale (args m c)) hI.scol, hI.acc, psum_all]
  unfold Spec.dx
  refine congrArg₂ _ rfl (congrArg (Spec.two * ·) (congrArg₂ _ (Finset.sum_congr rfl fun g _ => ?_) (Finset.sum_congr rfl fun g _ => ?_)))
  · rw [guOf_at, dif_pos (show g.val < 128 from g.isLt), x4_at]
    exact congrArg (· * _) (gu_at m c t hq h7 0 g p)
  · rw [guOf_at, dif_neg (show ¬128 + g.val < 128 by omega), x4_at]
    refine congrArg (· * _) (Eq.trans ?_ (gu_at m c t hq h7 1 g p))
    refine congrArg _ (Shape.idx_ext₂ ?_ rfl)
    show 128 + g.val - 128 = g.val
    omega

end Cert.KernelIdeal.Hand

end
-- ==== Proof.Value.Arrays.lean ====
/- The arrays the kernel's results are read from, in the arguments. -/
module

public import proofs.«01_k».proof.Proof.Value.Points

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)
variable (hq : ∀ p, 0 ≤ Spec.quot (args m c) p ∧ Spec.quot (args m c) p < Spec.q 240)
include hq

theorem arr8 : (dats m 0 c).arrAt 8 cfg0.N = (fun i : S256x4096.Idx => Spec.dx (args m c) (i 0) (i 1)) := by
  have i0 : ∀ t : Fin cfg0.N, ∀ a, win0_8.index t a = 0 := (by decide +kernel : ∀ t : Fin grid0.N, ∀ a, win0_8.index t a = 0)
  refine (dats m 0 c).arrAt_eq_of_covers 8 _ (by decide +kernel) fun t hf y => ?_
  have h7 : t.val = 7 := (by decide +kernel : ∀ t : Fin cfg0.N, (cfg0.win 8).flush t = true → t.val = 7) t hf
  obtain ⟨p, q, rfl⟩ : ∃ (p : Fin 256) (q : Fin 4096), y = ix2 p q := ⟨y 0, y 1, Shape.idx_ext₂ rfl rfl⟩
  have e : ((cfg0.win 8).blk t).view.emb (ix2 p q) = (ix2 p q : S256x4096.Idx) := by blk_ext [i0]
  rw [e]
  show (dats m 0 c).after 8 t (ix2 p q) = _
  rw [after0_8]
  rw [out8_at m c t hq h7]
  rfl

theorem arr9 : (dats m 0 c).arrAt 9 cfg0.N = (fun i : S128x4096.Idx => Spec.dA (args m c) (i 0) (i 1)) := by
  have i0 : ∀ t : Fin cfg0.N, ∀ a, win0_9.index t a = 0 := (by decide +kernel : ∀ t : Fin grid0.N, ∀ a, win0_9.index t a = 0)
  refine (dats m 0 c).arrAt_eq_of_covers 9 _ (by decide +kernel) fun t hf y => ?_
  have h7 : t.val = 7 := (by decide +kernel : ∀ t : Fin cfg0.N, (cfg0.win 9).flush t = true → t.val = 7) t hf
  obtain ⟨p, q, rfl⟩ : ∃ (p : Fin 128) (q : Fin 4096), y = ix2 p q := ⟨y 0, y 1, Shape.idx_ext₂ rfl rfl⟩
  have e : ((cfg0.win 9).blk t).view.emb (ix2 p q) = (ix2 p q : S128x4096.Idx) := by blk_ext [i0]
  rw [e]
  show (dats m 0 c).after 9 t (ix2 p q) = _
  rw [after0_9]
  rw [out9_at m c t hq h7]
  rfl

theorem arr10 : (dats m 0 c).arrAt 10 cfg0.N = (fun i : S128x14336.Idx => Spec.dB (args m c) (i 0) (i 1)) := by
  have i0 : ∀ t : Fin cfg0.N, win0_10.index t 0 = 0 := (by decide +kernel : ∀ t : Fin grid0.N, win0_10.index t 0 = 0)
  have i1 : ∀ t : Fin cfg0.N, win0_10.index t 1 = t.val := (by decide +kernel : ∀ t : Fin grid0.N, win0_10.index t 1 = t.val)
  refine (dats m 0 c).arrAt_eq_of_covers 10 _ (by decide +kernel) fun t hf y => ?_
  obtain ⟨p, q, rfl⟩ : ∃ (p : Fin 128) (q : Fin 1792), y = ix2 p q := ⟨y 0, y 1, Shape.idx_ext₂ rfl rfl⟩
  have e : ((cfg0.win 10).blk t).view.emb (ix2 p q) = (ix2 p (at' t q) : S128x14336.Idx) := by blk_ext [i0, i1]
  rw [e]
  show (dats m 0 c).after 10 t (ix2 p q) = _
  rw [after0_10]
  rw [out10_at m c t hq]
  rfl

theorem arr11 : (dats m 0 c).arrAt 11 cfg0.N = (fun i : S2x256.Idx => Spec.dgate (args m c) (i 0) (i 1)) := by
  have i0 : ∀ t : Fin cfg0.N, ∀ a, win0_11.index t a = 0 := (by decide +kernel : ∀ t : Fin grid0.N, ∀ a, win0_11.index t a = 0)
  refine (dats m 0 c).arrAt_eq_of_covers 11 _ (by decide +kernel) fun t hf y => ?_
  have h7 : t.val = 7 := (by decide +kernel : ∀ t : Fin cfg0.N, (cfg0.win 11).flush t = true → t.val = 7) t hf
  obtain ⟨p, q, rfl⟩ : ∃ (p : Fin 2) (q : Fin 256), y = ix2 p q := ⟨y 0, y 1, Shape.idx_ext₂ rfl rfl⟩
  have e : ((cfg0.win 11).blk t).view.emb (ix2 p q) = (ix2 p q : S2x256.Idx) := by blk_ext [i0]
  rw [e]
  show (dats m 0 c).after 11 t (ix2 p q) = _
  rw [after0_11]
  rw [out11_at m c t hq h7]
  rfl

theorem arr12 : (dats m 0 c).arrAt 12 cfg0.N = (fun i : S256x14336.Idx => Spec.codes (args m c) (i 0) (i 1)) := by
  have i0 : ∀ t : Fin cfg0.N, win0_12.index t 0 = 0 := (by decide +kernel : ∀ t : Fin grid0.N, win0_12.index t 0 = 0)
  have i1 : ∀ t : Fin cfg0.N, win0_12.index t 1 = t.val := (by decide +kernel : ∀ t : Fin grid0.N, win0_12.index t 1 = t.val)
  refine (dats m 0 c).arrAt_eq_of_covers 12 _ (by decide +kernel) fun t hf y => ?_
  obtain ⟨p, q, rfl⟩ : ∃ (p : Fin 256) (q : Fin 1792), y = ix2 p q := ⟨y 0, y 1, Shape.idx_ext₂ rfl rfl⟩
  have e : ((cfg0.win 12).blk t).view.emb (ix2 p q) = (ix2 p (at' t q) : S256x14336.Idx) := by blk_ext [i0, i1]
  rw [e]
  show (dats m 0 c).after 12 t (ix2 p q) = _
  rw [after0_12]
  rw [out12_at m c t hq]
  rfl

theorem arr13 : (dats m 0 c).arrAt 13 cfg0.N = (fun i : S1x256.Idx => Spec.scale (args m c) (i 1)) := by
  have i0 : ∀ t : Fin cfg0.N, ∀ a, win0_13.index t a = 0 := (by decide +kernel : ∀ t : Fin grid0.N, ∀ a, win0_13.index t a = 0)
  refine (dats m 0 c).arrAt_eq_of_covers 13 _ (by decide +kernel) fun t hf y => ?_
  obtain ⟨p, q, rfl⟩ : ∃ (p : Fin 1) (q : Fin 256), y = ix2 p q := ⟨y 0, y 1, Shape.idx_ext₂ rfl rfl⟩
  have e : ((cfg0.win 13).blk t).view.emb (ix2 p q) = (ix2 p q : S1x256.Idx) := by blk_ext [i0]
  rw [e]
  show (dats m 0 c).after 13 t (ix2 p q) = _
  rw [after0_13]
  obtain rfl : p = 0 := Subsingleton.elim _ _
  rw [out13_at m c hq]
  rfl

end Cert.KernelIdeal.Hand

end
-- ==== Proof.Value.Range.lean ====
/- Under the precondition every row's quotient is below the range the kernel's exponent arithmetic covers. -/
module

public import proofs.«01_k».proof.Defs
public import proofs.«01_k».proof.Proof.Value.KArgs
public import proofs.«01_k».proof.Proof.Value.Scale
public import Idealize.ShloMosaic.Lib.ReduceAll

@[expose] public section

set_option maxRecDepth 16384

noncomputable section

namespace Cert.KernelIdeal.Hand

open Cert.KernelIdeal.Gen
open Idealize.ShloMosaic Idealize.ShloMosaic.TcCoe Idealize.ShloMosaic.Tactic

/-- The largest finite bf16 number, and the constant the row maximum is multiplied by. -/
theorem big_eq : Ideal.ofBits .bf16 32639#16 = (((255 : ℝ) * 2 ^ 120 : ℝ) : EReal) := by
  show Ideal.ieee 8 7 32639#16 = _
  have e1 : ((32639#16 : BitVec 16).extractLsb' 7 8).toNat = 254 := by decide
  have e2 : ((32639#16 : BitVec 16).extractLsb' 0 7).toNat = 127 := by decide
  have e3 : ((32639#16 : BitVec 16).extractLsb' 15 1 == 1#1) = false := by decide
  unfold Ideal.ieee
  simp only [e1, e2, e3]
  rw [if_neg (by norm_num), if_neg (by norm_num)]
  refine congrArg _ ?_
  norm_num

theorem factor_eq : Ideal.ofBits .f32 932333861#32 = (((9586981 : ℝ) / 2 ^ 39 : ℝ) : EReal) := by
  show Ideal.ieee 8 23 932333861#32 = _
  have e1 : ((932333861#32 : BitVec 32).extractLsb' 23 8).toNat = 111 := by decide
  have e2 : ((932333861#32 : BitVec 32).extractLsb' 0 23).toNat = 1198373 := by decide
  have e3 : ((932333861#32 : BitVec 32).extractLsb' 31 1 == 1#1) = false := by decide
  unfold Ideal.ieee
  simp only [e1, e2, e3]
  rw [if_neg (by norm_num), if_neg (by norm_num)]
  refine congrArg _ ?_
  norm_num [zpow_neg, zpow_ofNat]

theorem negTop_eq : Ideal.ofBits .f32 4286578688#32 = (⊥ : EReal) := by
  show Ideal.ieee 8 23 4286578688#32 = _
  have e1 : ((4286578688#32 : BitVec 32).extractLsb' 23 8).toNat = 255 := by decide
  have e2 : ((4286578688#32 : BitVec 32).extractLsb' 0 23).toNat = 0 := by decide
  have e3 : ((4286578688#32 : BitVec 32).extractLsb' 31 1 == 1#1) = true := by decide
  unfold Ideal.ieee
  simp only [e1, e2, e3]
  norm_num

theorem quot_range (A : Spec.Args) (h : ∀ p f, max (A.dy p f) (-A.dy p f) ≤ Ideal.ofBits .bf16 32639#16) (p : Fin 256) :
    0 ≤ Spec.quot A p ∧ Spec.quot A p < Spec.q 240 := by
  have hC : (0 : EReal) ≤ Ideal.ofBits .f32 932333861#32 := by
    rw [factor_eq]; exact EReal.coe_nonneg.mpr (by positivity)
  have h0 : (0 : EReal) ≤ max (A.dy p 0) (-A.dy p 0) := by
    rcases le_total 0 (A.dy p 0) with h | h
    · exact le_max_of_le_left h
    · exact le_max_of_le_right (EReal.neg_nonneg.mpr h)
  have hM : (Finset.univ.fold max (Ideal.ofBits .f32 4286578688#32) fun f : Fin 14336 => max (A.dy p f) (-A.dy p f)) ≤ Ideal.ofBits .bf16 32639#16 :=
    Finset.fold_max_le _ |>.mpr ⟨by rw [negTop_eq]; exact bot_le, fun f _ => h p f⟩
  have hM0 : (0 : EReal) ≤ Finset.univ.fold max (Ideal.ofBits .f32 4286578688#32) fun f : Fin 14336 => max (A.dy p f) (-A.dy p f) :=
    Finset.le_fold_max _ |>.mpr (Or.inr ⟨0, Finset.mem_univ _, h0⟩)
  unfold Spec.quot
  refine ⟨mul_nonneg hM0 hC, lt_of_le_of_lt (mul_le_mul_of_nonneg_right hM hC) ?_⟩
  rw [big_eq, factor_eq, Spec.q_mid 240 (by norm_num) (by norm_num), ← EReal.coe_mul]
  refine EReal.coe_lt_coe_iff.mpr ?_
  rw [show ((240 : ℕ) : ℤ) - 127 = ((113 : ℕ) : ℤ) by norm_num, zpow_natCast]
  norm_num

theorem ofBool_true : ∀ b : Bool, BitVec.ofBool b = 1#1 → b = true := by decide

variable (m : (ℓ : Loc nD τ sig) → Buf (Elt Ideal) ℓ) (c : Dev nD)

theorem quot_in [Cert.Pre_in_range.Facts] (hp : Cert.Pre_KernelIdeal_in_range m) (p : Fin 256) :
    0 ≤ Spec.quot (args m c) p ∧ Spec.quot (args m c) p < Spec.q 240 := by
  refine quot_range _ (fun p f => ?_) p
  have e := congrFun (hp c) (fun a => a.elim0)
  have : Subsingleton Cert.Pre_in_range.S_.Idx := ⟨fun a b => funext fun i => i.elim0⟩
  have e2 := Host.reduce_andi_all _ _ _ _ _ e (ix2 p f)
  have e3 : BitVec.ofBool (decide ((max ((args m c).dy p f) (-(args m c).dy p f) : EReal) ≤ Ideal.ofBits .bf16 32639#16)) = 1#1 := e2
  exact of_decide_eq_true (ofBool_true _ e3)

end Cert.KernelIdeal.Hand

end
-- ==== Proof.Value.RefPay.lean ====
module

public import proofs.«01_k».proof.Proof.Value.Spec
public import proofs.«01_k».proof.Proof.Gen.ReferenceIdeal.Value

@[expose] public section

set_option maxRecDepth 16384

noncomputable section

namespace Cert.ReferenceIdeal.Hand

open Cert.ReferenceIdeal.Gen
open Idealize.ShloMosaic Idealize.ShloMosaic.TcCoe Idealize.ShloMosaic.Tactic

theorem pay7_at (x : Vec Ideal S256x4096 .bf16) (a : Vec Ideal S128x4096 .bf16) (t : Fin 256) (c : Fin 128) :
    k0_pay7 x a (ix2 t c) = ∑ d : Fin 4096, x (ix2 t d) * a (ix2 c d) := by
  pointwise [k0_pay7]

theorem pay8_at (dy : Vec Ideal S256x14336 .bf16) (b : Vec Ideal S14336x128 .bf16) (t : Fin 256) (c : Fin 128) :
    k0_pay8 dy b (ix2 t c) = ∑ f : Fin 14336, dy (ix2 t f) * b (ix2 f c) := by
  pointwise [k0_pay8]

theorem pay9_at (t : Fin 256) (c : Fin 128) : k0_pay9 (ix2 t c) = BitVec.ofNat 32 (c.val / 16) := by
  pointwise [k0_pay9]
  revert c; decide +kernel

/-- The row maxima over 57344. -/
def qv (v : FVec Ideal S256x14336 .f32) : FVec Ideal S256x1 .f32 :=
  mulf (shapeCast S256x1 (multiReduction .maximumf [1] S256 v 0xFF800000#32 reduces_S256x14336_S256 (.inl rfl) rfl) shapeCasts_S256_S256x1) (broadcast S256x1 (Scalar.ofBits .f32 0x37924925#32))

/-- The powers of two the scales are taken from. -/
def pwv : FVec Ideal S1x256 .f32 := exp2 (sitofp .f32 (subi (iota .tc S1x256 32 [1] iota_S1x256_d1_w32) (broadcast S1x256 125#32)))

/-- The least power above a row's quotient, and 1 below `cm`. -/
def scv (p : FVec Ideal S256x1 .f32) (w : FVec Ideal S1x256 .f32) (c1 cm ct : Ideal .f32) : FVec Ideal S256x1 .f32 :=
  select (cmpf .olt p (broadcast S256x1 cm)) (broadcast S256x1 c1)
   (shapeCast S256x1 (multiReduction .minimumf [1] S256 (select (cmpf .olt (broadcastTo S256x256 p broadcasts_S256x1_S256x256) (broadcastTo S256x256 w broadcasts_S1x256_S256x256)) (broadcastTo S256x256 (shapeCast S1x256 w shapeCasts_S1x256_S1x256) broadcasts_S1x256_S256x256) (broadcast S256x256 ct)) 0x7F800000#32 reduces_S256x256_S256 (.inl rfl) rfl) shapeCasts_S256_S256x1)

theorem pay3_eq (dy : Vec Ideal S256x14336 .bf16) : k0_pay3 dy = scv (qv (absf (k0_pay2 dy))) pwv (Scalar.ofBits .f32 0x3F800000#32) (Scalar.ofBits .f32 0x00800000#32) (Scalar.ofBits .f32 0x7F800000#32) := rfl

theorem pwv_at (k : Fin 256) : pwv (ix2 0 k) = Spec.pow k := by
  pointwise [pwv]

theorem scv_at (p : FVec Ideal S256x1 .f32) (w : FVec Ideal S1x256 .f32) (c1 cm ct : EReal) (t : Fin 256) :
    (scv p w c1 cm ct (ix2 t 0) : EReal) = if (p (ix2 t 0) : EReal) < cm then c1
      else Finset.univ.fold min (Ideal.ofBits .f32 2139095040#32) fun k : Fin 256 => if (p (ix2 t 0) : EReal) < w (ix2 0 k) then (w (ix2 0 k) : EReal) else ct := by
  pointwise [scv]

theorem q_row {n1 : ℕ} (v : FVec Ideal ⟨2, ![256, n1]⟩ .f32) (h : (⟨2, ![256, n1]⟩ : Shape).Reduces [1] S256) (hφ) (hacc) (t : Fin 256) :
    mulf (shapeCast S256x1 (multiReduction .maximumf [1] S256 v 0xFF800000#32 h hφ hacc) shapeCasts_S256_S256x1) (broadcast S256x1 (Scalar.ofBits .f32 0x37924925#32)) (ix2 t 0)
      = (Finset.univ.fold max (Ideal.ofBits .f32 4286578688#32) fun f : Fin n1 => (v (ix2 t f) : EReal)) * Ideal.ofBits .f32 932333861#32 := by
  pointwise []

theorem qv_at (v : FVec Ideal S256x14336 .f32) (t : Fin 256) :
    qv v (ix2 t 0) = (Finset.univ.fold max (Ideal.ofBits .f32 4286578688#32) fun f : Fin 14336 => (v (ix2 t f) : EReal)) * Ideal.ofBits .f32 932333861#32 := by
  unfold qv
  exact q_row (n1 := 14336) v _ _ _ t

theorem abs_at (dy : Vec Ideal S256x14336 .bf16) (t : Fin 256) (f : Fin 14336) : (absf (k0_pay2 dy) (ix2 t f) : EReal) = max (dy (ix2 t f) : EReal) (-(dy (ix2 t f) : EReal)) := rfl

theorem pay4_e (dy : Vec Ideal S256x14336 .bf16) (t : Fin 256) (f : Fin 14336) : (k0_pay4 dy (ix2 t f) : EReal) =
   min (Ideal.ofBits .f32 0x47600000#32) (max (Ideal.ofBits .f32 0xC7600000#32) ((dy (ix2 t f) : EReal) * broadcastTo S256x14336 (divf (broadcast S256x1 (Scalar.ofBits .f32 0x3F800000#32)) (k0_pay3 dy)) broadcasts_S256x1_S256x14336 (ix2 t f))) := rfl

theorem bc_at (s : FVec Ideal S256x1 .f32) (t : Fin 256) (f : Fin 14336) : broadcastTo S256x14336 s broadcasts_S256x1_S256x14336 (ix2 t f) = s (ix2 t 0) :=
  broadcastTo_apply s _ _ _ (fun a => by fin_cases a <;> rfl)

theorem div_at (s : FVec Ideal S256x1 .f32) (t : Fin 256) : (divf (broadcast S256x1 (Scalar.ofBits .f32 0x3F800000#32)) s) (ix2 t 0) = Ideal.div (Ideal.ofBits .f32 0x3F800000#32) (s (ix2 t 0)) := rfl

theorem pay5_at (dy : Vec Ideal S256x14336 .bf16) (t : Fin 256) : k0_pay5 dy (ix2 0 t) = k0_pay3 dy (ix2 t 0) := by
  pointwise [k0_pay5]

theorem pay6_at (s : FVec Ideal S256x1 .f32) (cd : FVec Ideal S256x14336 .fp8e5m2) (w : Vec Ideal S14336x4096 .fp8e4m3) (ws : Vec Ideal S112x32 .f32) (t : Fin 256) (d : Fin 4096) :
    k0_pay6 s cd w ws (ix2 t d) = (∑ f : Fin 14336, cd (ix2 t f) * (w (ix2 f d) * ws (ix2 ⟨f.val / 128, by omega⟩ ⟨d.val / 128, by omega⟩))) * s (ix2 t 0) := by
  pointwise [k0_pay6]

theorem sel_eq {α : Type} (a b : BitVec 32) (x y : α) : Scalar.select (IntOp.cmpi .eq a b) x y = if a = b then x else y := by
  by_cases h : a = b
  · subst h; simp [Scalar.select, IntOp.cmpi]
  · have e : (a == b) = false := by simp [h]
    simp [Scalar.select, IntOp.cmpi, h, e]

/-- The arguments by coordinates, from the arrays the body reads. -/
def ofR (x0 : Vec Ideal S256x4096 .bf16) (x1 : Vec Ideal S256x14336 .bf16) (x2 : Vec Ideal S14336x4096 .fp8e4m3) (x3 : Vec Ideal S112x32 .f32) (x4 : Vec Ideal S128x4096 .bf16) (x5 : Vec Ideal S14336x128 .bf16) (x6 : Vec Ideal S256x2 .i32) (x7 : Vec Ideal S256x2 .f32) : Spec.Args where
  x t d := x0 (ix2 t d)
  dy t f := x1 (ix2 t f)
  w f d := x2 (ix2 f d)
  ws r n := x3 (ix2 r n)
  a c d := x4 (ix2 c d)
  b f c := x5 (ix2 f c)
  idx t j := x6 (ix2 t j)
  g t j := x7 (ix2 t j)

section
variable (x0 : Vec Ideal S256x4096 .bf16) (x1 : Vec Ideal S256x14336 .bf16) (x2 : Vec Ideal S14336x4096 .fp8e4m3) (x3 : Vec Ideal S112x32 .f32) (x4 : Vec Ideal S128x4096 .bf16) (x5 : Vec Ideal S14336x128 .bf16) (x6 : Vec Ideal S256x2 .i32) (x7 : Vec Ideal S256x2 .f32)

theorem sob (b : BitVec 32) : (Scalar.ofBits .f32 b : Ideal .f32) = Ideal.ofBits .f32 b := rfl

theorem pay3_at (t : Fin 256) : k0_pay3 x1 (ix2 t 0) = Spec.scale (ofR x0 x1 x2 x3 x4 x5 x6 x7) t := by
  rw [pay3_eq, scv_at, qv_at, sob, sob, sob]
  simp only [pwv_at, abs_at]
  unfold Spec.scale Spec.scaleOf Spec.quot
  simp only [ofR]
  congr!

theorem pay4_at (t : Fin 256) (f : Fin 14336) : k0_pay4 x1 (ix2 t f) = Spec.codes (ofR x0 x1 x2 x3 x4 x5 x6 x7) t f := by
  rw [pay4_e, bc_at, div_at, pay3_at x0 x1 x2 x3 x4 x5 x6 x7]
  unfold Spec.codes Spec.code
  simp only [ofR]

theorem pay7_spec (t : Fin 256) (c : Fin 128) : k0_pay7 x0 x4 (ix2 t c) = Spec.h (ofR x0 x1 x2 x3 x4 x5 x6 x7) t c := pay7_at x0 x4 t c
theorem pay8_spec (t : Fin 256) (c : Fin 128) : k0_pay8 x1 x5 (ix2 t c) = Spec.u (ofR x0 x1 x2 x3 x4 x5 x6 x7) t c := pay8_at x1 x5 t c

theorem pay11_at (h u : FVec Ideal S256x128 .f32) (i : IVec S256x128 32) (r : Vec Ideal S256x1 .i32) (t : Fin 256) :
    k0_pay11 h u i r (ix2 0 t) = Spec.two * ∑ c : Fin 128, if r (ix2 t 0) = i (ix2 t c) then u (ix2 t c) * h (ix2 t c) else 0 := by
  pointwise [k0_pay11, k0_pay10]
  simp only [sel_eq]
theorem pay18_at (h u : FVec Ideal S256x128 .f32) (i : IVec S256x128 32) (r : Vec Ideal S256x1 .i32) (t : Fin 256) :
    k0_pay18 (k0_pay16 i r) (k0_pay17 h u) (ix2 0 t) = Spec.two * ∑ c : Fin 128, if r (ix2 t 0) = i (ix2 t c) then u (ix2 t c) * h (ix2 t c) else 0 := by
  pointwise [k0_pay18, k0_pay16, k0_pay17]
  simp only [sel_eq]
theorem pay20_at (x : Vec Ideal S256x4096 .bf16) (u : FVec Ideal S256x128 .f32) (i : IVec S256x128 32) (r0 r1 : Vec Ideal S256x1 .i32) (g0 g1 : Vec Ideal S256x1 .f32) (c : Fin 128) (d : Fin 4096) :
    k0_pay20 x u (k0_pay13 x u i r0 g0) (k0_pay16 i r1) g1 (ix2 c d)
      = Spec.two * ((∑ t : Fin 256, (if r0 (ix2 t 0) = i (ix2 t c) then g0 (ix2 t 0) * u (ix2 t c) else 0) * x (ix2 t d))
        + ∑ t : Fin 256, (if r1 (ix2 t 0) = i (ix2 t c) then g1 (ix2 t 0) * u (ix2 t c) else 0) * x (ix2 t d)) := by
  pointwise [k0_pay20, k0_pay13, k0_pay12, k0_pay19, k0_pay16, k0_pay10]
  simp only [sel_eq, ite_mul, zero_mul]
theorem pay21_at (y : FVec Ideal S256x14336 .f32) (h : FVec Ideal S256x128 .f32) (i : IVec S256x128 32) (r0 r1 : Vec Ideal S256x1 .i32) (g0 g1 : Vec Ideal S256x1 .f32) (c : Fin 128) (d : Fin 14336) :
    k0_pay21 y h (k0_pay14 y h i r0 g0) (k0_pay16 i r1) g1 (ix2 c d)
      = Spec.two * ((∑ t : Fin 256, (if r0 (ix2 t 0) = i (ix2 t c) then h (ix2 t c) else 0) * (g0 (ix2 t 0) * y (ix2 t d)))
        + ∑ t : Fin 256, (if r1 (ix2 t 0) = i (ix2 t c) then h (ix2 t c) else 0) * (g1 (ix2 t 0) * y (ix2 t d))) := by
  pointwise [k0_pay21, k0_pay14, k0_pay16, k0_pay10]
  simp only [sel_eq, ite_mul, zero_mul]
theorem pay22_at (a : FVec Ideal S128x4096 .bf16) (b : FVec Ideal S256x4096 .f32) (u : FVec Ideal S256x128 .f32) (i : IVec S256x128 32) (r0 r1 : Vec Ideal S256x1 .i32) (g0 g1 : Vec Ideal S256x1 .f32) (t : Fin 256) (d : Fin 4096) :
    k0_pay22 a b u (k0_pay15 a u i r0 g0) (k0_pay16 i r1) g1 (ix2 t d)
      = b (ix2 t d) + Spec.two * ((∑ c : Fin 128, (if r0 (ix2 t 0) = i (ix2 t c) then g0 (ix2 t 0) * u (ix2 t c) else 0) * a (ix2 c d))
        + ∑ c : Fin 128, (if r1 (ix2 t 0) = i (ix2 t c) then g1 (ix2 t 0) * u (ix2 t c) else 0) * a (ix2 c d)) := by
  pointwise [k0_pay22, k0_pay15, k0_pay12, k0_pay19, k0_pay16, k0_pay10]
  simp only [sel_eq, ite_mul, zero_mul]

end

end Cert.ReferenceIdeal.Hand

end
-- ==== Proof.Value.RefVal.lean ====
/- The reference's results, element by element, as the formulas of the backward pass. -/
module

public import proofs.«01_k».proof.Proof.Value.RefPay
public import Idealize.ShloMosaic.Lib.Pipeline.ValueKit.Point

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

theorem z2 : (![0, 0] : Fin 2 → ℕ) = fun _ => 0 := by funext a; fin_cases a <;> rfl

theorem col0 {e : EltTy} (X : S256x2.Idx → Elt Ideal e) (t : Fin 256) : View.ld X r0_7 (ix2 t 0) = X (ix2 t 0) :=
  View.ld_unit_apply_of X _ _ _ _ _ (fun a => by fin_cases a <;> simp [ix2])
theorem col1 {e : EltTy} (X : S256x2.Idx → Elt Ideal e) (t : Fin 256) : View.ld X r0_9 (ix2 t 0) = X (ix2 t 1) :=
  View.ld_unit_apply_of X _ _ _ _ _ (fun a => by fin_cases a <;> simp [ix2])
theorem w0 {e : EltTy} (X : S256x4096.Idx → Elt Ideal e) : View.ld X r0_0 = X := View.ld_unit_zero (S := S256x4096) z2 _ X
theorem w1 {e : EltTy} (X : S256x14336.Idx → Elt Ideal e) : View.ld X r0_1 = X := View.ld_unit_zero (S := S256x14336) z2 _ X
theorem w2 {e : EltTy} (X : S128x4096.Idx → Elt Ideal e) : View.ld X r0_2 = X := View.ld_unit_zero (S := S128x4096) z2 _ X
theorem w4 {e : EltTy} (X : S14336x4096.Idx → Elt Ideal e) : View.ld X r0_4 = X := View.ld_unit_zero (S := S14336x4096) z2 _ X
theorem w5 {e : EltTy} (X : S112x32.Idx → Elt Ideal e) : View.ld X r0_5 = X := View.ld_unit_zero (S := S112x32) z2 _ X
theorem w6 {e : EltTy} (X : S14336x128.Idx → Elt Ideal e) : View.ld X r0_6 = X := View.ld_unit_zero (S := S14336x128) z2 _ X
theorem pay1_eq (v : Vec Ideal S128x4096 .bf16) : k0_pay1 v = v := by
  funext i; exact shapeCast_apply _ _ _ _ rfl
theorem pay2_eq (v : Vec Ideal S256x14336 .bf16) : k0_pay2 v = v := rfl

section
variable (x0 : Vec Ideal S256x4096 .bf16) (x1 : Vec Ideal S256x14336 .bf16) (x2 : Vec Ideal S14336x4096 .fp8e4m3) (x3 : Vec Ideal S112x32 .f32) (x4 : Vec Ideal S128x4096 .bf16) (x5 : Vec Ideal S14336x128 .bf16) (x6 : Vec Ideal S256x2 .i32) (x7 : Vec Ideal S256x2 .f32)

theorem out12_at (t : Fin 256) (f : Fin 14336) : out0_12 x0 x1 x2 x3 x4 x5 x6 x7 (ix2 t f) = Spec.codes (ofR x0 x1 x2 x3 x4 x5 x6 x7) t f := by
  unfold out0_12
  rw [View.canon_unit_zero z2, w1]
  exact pay4_at x0 x1 x2 x3 x4 x5 x6 x7 t f

theorem out13_at (t : Fin 256) : out0_13 x0 x1 x2 x3 x4 x5 x6 x7 (ix2 0 t) = Spec.scale (ofR x0 x1 x2 x3 x4 x5 x6 x7) t := by
  unfold out0_13
  rw [View.canon_unit_zero z2, w1, pay5_at]
  exact pay3_at x0 x1 x2 x3 x4 x5 x6 x7 t

theorem out8_at (t : Fin 256) (d : Fin 4096) : out0_8 x0 x1 x2 x3 x4 x5 x6 x7 (ix2 t d) = Spec.dx (ofR x0 x1 x2 x3 x4 x5 x6 x7) t d := by
  have e0 (t : Fin 256) : View.ld x6 r0_7 (ix2 t 0) = x6 (ix2 t 0) := col0 x6 t
  have e1 (t : Fin 256) : View.ld x6 r0_9 (ix2 t 0) = x6 (ix2 t 1) := col1 x6 t
  have e2 (t : Fin 256) : View.ld x7 r0_7 (ix2 t 0) = x7 (ix2 t 0) := col0 x7 t
  have e3 (t : Fin 256) : View.ld x7 r0_9 (ix2 t 0) = x7 (ix2 t 1) := col1 x7 t
  unfold_out out0_8
  rw [View.canon_unit_zero z2]
  simp only [w0, w1, w2, w4, w5, w6, pay1_eq]
  rw [pay22_at, pay6_at, pay3_at x0 x1 x2 x3 x4 x5 x6 x7]
  simp only [pay4_at x0 x1 x2 x3 x4 x5 x6 x7, pay8_spec x0 x1 x2 x3 x4 x5 x6 x7, pay9_at, e0, e1, e2, e3]
  rfl

theorem out9_at (c : Fin 128) (d : Fin 4096) : out0_9 x0 x1 x2 x3 x4 x5 x6 x7 (ix2 c d) = Spec.dA (ofR x0 x1 x2 x3 x4 x5 x6 x7) c d := by
  have e0 (t : Fin 256) : View.ld x6 r0_7 (ix2 t 0) = x6 (ix2 t 0) := col0 x6 t
  have e1 (t : Fin 256) : View.ld x6 r0_9 (ix2 t 0) = x6 (ix2 t 1) := col1 x6 t
  have e2 (t : Fin 256) : View.ld x7 r0_7 (ix2 t 0) = x7 (ix2 t 0) := col0 x7 t
  have e3 (t : Fin 256) : View.ld x7 r0_9 (ix2 t 0) = x7 (ix2 t 1) := col1 x7 t
  unfold_out out0_9
  rw [View.canon_unit_zero z2]
  simp only [w0, w1, w2, w4, w5, w6, pay1_eq]
  rw [pay20_at]
  simp only [pay8_spec x0 x1 x2 x3 x4 x5 x6 x7, pay9_at, e0, e1, e2, e3]
  rfl

theorem out10_at (c : Fin 128) (f : Fin 14336) : out0_10 x0 x1 x2 x3 x4 x5 x6 x7 (ix2 c f) = Spec.dB (ofR x0 x1 x2 x3 x4 x5 x6 x7) c f := by
  have e0 (t : Fin 256) : View.ld x6 r0_7 (ix2 t 0) = x6 (ix2 t 0) := col0 x6 t
  have e1 (t : Fin 256) : View.ld x6 r0_9 (ix2 t 0) = x6 (ix2 t 1) := col1 x6 t
  have e2 (t : Fin 256) : View.ld x7 r0_7 (ix2 t 0) = x7 (ix2 t 0) := col0 x7 t
  have e3 (t : Fin 256) : View.ld x7 r0_9 (ix2 t 0) = x7 (ix2 t 1) := col1 x7 t
  unfold_out out0_10
  rw [View.canon_unit_zero z2]
  simp only [w0, w1, w2, w4, w5, w6, pay1_eq, pay2_eq]
  rw [pay21_at]
  simp only [pay7_spec x0 x1 x2 x3 x4 x5 x6 x7, pay9_at, e0, e1, e2, e3]
  rfl

theorem row1_spec (t : Fin 256) : k0_pay18 (k0_pay16 k0_pay9 (View.ld x6 r0_9)) (k0_pay17 (k0_pay7 x0 x4) (k0_pay8 x1 x5)) (ix2 0 t) = Spec.dgate (ofR x0 x1 x2 x3 x4 x5 x6 x7) 1 t := by
  have e : (View.ld x6 r0_9 (ix2 t 0)) = x6 (ix2 t 1) := col1 x6 t
  rw [pay18_at, e]
  simp only [pay7_spec x0 x1 x2 x3 x4 x5 x6 x7, pay8_spec x0 x1 x2 x3 x4 x5 x6 x7, pay9_at]
  rfl

theorem row0_spec (t : Fin 256) : k0_pay11 (k0_pay7 x0 x4) (k0_pay8 x1 x5) k0_pay9 (View.ld x6 r0_7) (ix2 0 t) = Spec.dgate (ofR x0 x1 x2 x3 x4 x5 x6 x7) 0 t := by
  have e : (View.ld x6 r0_7 (ix2 t 0)) = x6 (ix2 t 0) := col0 x6 t
  rw [pay11_at, e]
  simp only [pay7_spec x0 x1 x2 x3 x4 x5 x6 x7, pay8_spec x0 x1 x2 x3 x4 x5 x6 x7, pay9_at]
  rfl

theorem row_idx (y : S1x256.Idx) : y = ix2 0 (y 1) := by
  funext a
  match a with
  | ⟨0, _⟩ => exact Subsingleton.elim (α := Fin 1) _ _
  | ⟨1, _⟩ => rfl

theorem emb_eq {S : Shape} (off size : Fin S.rank → ℕ) (inb) (x : (Rect.unit (s := S) off size inb).shape.Idx) (i : S.Idx) (h : ∀ a, (i a).val = off a + (x a).val) :
    (Rect.unit off size inb).emb x = i :=
  funext fun a => Fin.ext ((Rect.idx_unit_val off size inb x a).trans (h a).symm)

theorem out11_at (j : Fin 2) (t : Fin 256) : out0_11 x0 x1 x2 x3 x4 x5 x6 x7 (ix2 j t) = Spec.dgate (ofR x0 x1 x2 x3 x4 x5 x6 x7) j t := by
  unfold_out out0_11
  simp only [w0, w1, w2, w4, w5, w6, pay1_eq]
  refine View.canon_apply_of_pieces (Val := Elt Ideal) (e := .f32) (fun i : S2x256.Idx => Spec.dgate (ofR x0 x1 x2 x3 x4 x5 x6 x7) (i 0) (i 1)) _ ?_ _ (cover0_11 _ _ _)
  intro p hp y
  rcases List.mem_cons.mp hp with rfl | hp
  · have e : r0_10.emb y = (ix2 1 (y 1) : S2x256.Idx) := emb_eq _ _ _ _ _ fun a => by
      match a with
      | ⟨0, _⟩ => have : (y 0).val < 1 := (y 0).isLt; show 1 = 1 + (y 0).val; omega
      | ⟨1, _⟩ => show (y 1).val = 0 + (y 1).val; omega
    show _ = Spec.dgate (ofR x0 x1 x2 x3 x4 x5 x6 x7) (r0_10.emb y 0) (r0_10.emb y 1)
    rw [e, row_idx y]
    exact row1_spec x0 x1 x2 x3 x4 x5 x6 x7 _
  rcases List.mem_cons.mp hp with rfl | hp
  · have e : r0_8.emb y = (ix2 0 (y 1) : S2x256.Idx) := emb_eq _ _ _ _ _ fun a => by
      match a with
      | ⟨0, _⟩ => have : (y 0).val < 1 := (y 0).isLt; show 0 = 0 + (y 0).val; omega
      | ⟨1, _⟩ => show (y 1).val = 0 + (y 1).val; omega
    show _ = Spec.dgate (ofR x0 x1 x2 x3 x4 x5 x6 x7) (r0_8.emb y 0) (r0_8.emb y 1)
    rw [e, row_idx y]
    exact row0_spec x0 x1 x2 x3 x4 x5 x6 x7 _
  nomatch hp

end

section
variable (m : (ℓ : Loc nD τ sig) → Buf (Elt Ideal) ℓ) (c : Dev nD)

/-- The arguments by coordinates. -/
def args : Spec.Args :=
  Spec.ofRaw (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem iargs (t : Fin cfg0.N) : ofR (iblk m c 0 t) (iblk m c 1 t) (iblk m c 2 t) (iblk m c 3 t) (iblk m c 4 t) (iblk m c 5 t) (iblk m c 6 t) (iblk m c 7 t) = args m c := by
  have i0 : ∀ t : Fin cfg0.N, ∀ a, win0_0.index t a = 0 := (by decide +kernel : ∀ t : Fin grid0.N, ∀ a, win0_0.index t a = 0)
  have i1 : ∀ t : Fin cfg0.N, ∀ a, win0_1.index t a = 0 := (by decide +kernel : ∀ t : Fin grid0.N, ∀ a, win0_1.index t a = 0)
  have i2 : ∀ t : Fin cfg0.N, ∀ a, win0_2.index t a = 0 := (by decide +kernel : ∀ t : Fin grid0.N, ∀ a, win0_2.index t a = 0)
  have i3 : ∀ t : Fin cfg0.N, ∀ a, win0_3.index t a = 0 := (by decide +kernel : ∀ t : Fin grid0.N, ∀ a, win0_3.index t a = 0)
  have i4 : ∀ t : Fin cfg0.N, ∀ a, win0_4.index t a = 0 := (by decide +kernel : ∀ t : Fin grid0.N, ∀ a, win0_4.index t a = 0)
  have i5 : ∀ t : Fin cfg0.N, ∀ a, win0_5.index t a = 0 := (by decide +kernel : ∀ t : Fin grid0.N, ∀ a, win0_5.index t a = 0)
  have i6 : ∀ t : Fin cfg0.N, ∀ a, win0_6.index t a = 0 := (by decide +kernel : ∀ t : Fin grid0.N, ∀ a, win0_6.index t a = 0)
  have i7 : ∀ t : Fin cfg0.N, ∀ a, win0_7.index t a = 0 := (by decide +kernel : ∀ t : Fin grid0.N, ∀ a, win0_7.index t a = 0)

  unfold ofR args Spec.ofRaw
  congr 1
  · funext p q; blk_ext! [iblk, V, i0]
  · funext p q; blk_ext! [iblk, V, i1]
  · funext p q; blk_ext! [iblk, V, i2]
  · funext p q; blk_ext! [iblk, V, i3]
  · funext p q; blk_ext! [iblk, V, i4]
  · funext p q; blk_ext! [iblk, V, i5]
  · funext p q; blk_ext! [iblk, V, i6]
  · funext p q; blk_ext! [iblk, V, i7]

theorem arr8 : (dats m 0 c).arrAt 8 cfg0.N = (fun i : S256x4096.Idx => Spec.dx (args m c) (i 0) (i 1)) := by
  have hi : ∀ t : Fin cfg0.N, ∀ a, win0_8.index t a = 0 := (by decide +kernel : ∀ t : Fin grid0.N, ∀ a, win0_8.index t a = 0)
  refine (dats m 0 c).arrAt_eq_of_covers 8 _ (by decide +kernel) fun t hf y => ?_
  obtain ⟨p, q, rfl⟩ : ∃ (p : Fin 256) (q : Fin 4096), y = ix2 p q := ⟨y 0, y 1, Shape.idx_ext₂ rfl rfl⟩
  have e : ((cfg0.win 8).blk t).view.emb (ix2 p q) = (ix2 p q : S256x4096.Idx) := by blk_ext [hi]
  rw [e]
  show (dats m 0 c).after 8 t (ix2 p q) = _
  rw [after0_8]
  rw [out8_at, iargs m c t]
  rfl

theorem arr9 : (dats m 0 c).arrAt 9 cfg0.N = (fun i : S128x4096.Idx => Spec.dA (args m c) (i 0) (i 1)) := by
  have hi : ∀ t : Fin cfg0.N, ∀ a, win0_9.index t a = 0 := (by decide +kernel : ∀ t : Fin grid0.N, ∀ a, win0_9.index t a = 0)
  refine (dats m 0 c).arrAt_eq_of_covers 9 _ (by decide +kernel) fun t hf y => ?_
  obtain ⟨p, q, rfl⟩ : ∃ (p : Fin 128) (q : Fin 4096), y = ix2 p q := ⟨y 0, y 1, Shape.idx_ext₂ rfl rfl⟩
  have e : ((cfg0.win 9).blk t).view.emb (ix2 p q) = (ix2 p q : S128x4096.Idx) := by blk_ext [hi]
  rw [e]
  show (dats m 0 c).after 9 t (ix2 p q) = _
  rw [after0_9]
  rw [out9_at, iargs m c t]
  rfl

theorem arr10 : (dats m 0 c).arrAt 10 cfg0.N = (fun i : S128x14336.Idx => Spec.dB (args m c) (i 0) (i 1)) := by
  have hi : ∀ t : Fin cfg0.N, ∀ a, win0_10.index t a = 0 := (by decide +kernel : ∀ t : Fin grid0.N, ∀ a, win0_10.index t a = 0)
  refine (dats m 0 c).arrAt_eq_of_covers 10 _ (by decide +kernel) fun t hf y => ?_
  obtain ⟨p, q, rfl⟩ : ∃ (p : Fin 128) (q : Fin 14336), y = ix2 p q := ⟨y 0, y 1, Shape.idx_ext₂ rfl rfl⟩
  have e : ((cfg0.win 10).blk t).view.emb (ix2 p q) = (ix2 p q : S128x14336.Idx) := by blk_ext [hi]
  rw [e]
  show (dats m 0 c).after 10 t (ix2 p q) = _
  rw [after0_10]
  rw [out10_at, iargs m c t]
  rfl

theorem arr11 : (dats m 0 c).arrAt 11 cfg0.N = (fun i : S2x256.Idx => Spec.dgate (args m c) (i 0) (i 1)) := by
  have hi : ∀ t : Fin cfg0.N, ∀ a, win0_11.index t a = 0 := (by decide +kernel : ∀ t : Fin grid0.N, ∀ a, win0_11.index t a = 0)
  refine (dats m 0 c).arrAt_eq_of_covers 11 _ (by decide +kernel) fun t hf y => ?_
  obtain ⟨p, q, rfl⟩ : ∃ (p : Fin 2) (q : Fin 256), y = ix2 p q := ⟨y 0, y 1, Shape.idx_ext₂ rfl rfl⟩
  have e : ((cfg0.win 11).blk t).view.emb (ix2 p q) = (ix2 p q : S2x256.Idx) := by blk_ext [hi]
  rw [e]
  show (dats m 0 c).after 11 t (ix2 p q) = _
  rw [after0_11]
  rw [out11_at, iargs m c t]
  rfl

theorem arr12 : (dats m 0 c).arrAt 12 cfg0.N = (fun i : S256x14336.Idx => Spec.codes (args m c) (i 0) (i 1)) := by
  have hi : ∀ t : Fin cfg0.N, ∀ a, win0_12.index t a = 0 := (by decide +kernel : ∀ t : Fin grid0.N, ∀ a, win0_12.index t a = 0)
  refine (dats m 0 c).arrAt_eq_of_covers 12 _ (by decide +kernel) fun t hf y => ?_
  obtain ⟨p, q, rfl⟩ : ∃ (p : Fin 256) (q : Fin 14336), y = ix2 p q := ⟨y 0, y 1, Shape.idx_ext₂ rfl rfl⟩
  have e : ((cfg0.win 12).blk t).view.emb (ix2 p q) = (ix2 p q : S256x14336.Idx) := by blk_ext [hi]
  rw [e]
  show (dats m 0 c).after 12 t (ix2 p q) = _
  rw [after0_12]
  rw [out12_at, iargs m c t]
  rfl

theorem arr13 : (dats m 0 c).arrAt 13 cfg0.N = (fun i : S1x256.Idx => Spec.scale (args m c) (i 1)) := by
  have hi : ∀ t : Fin cfg0.N, ∀ a, win0_13.index t a = 0 := (by decide +kernel : ∀ t : Fin grid0.N, ∀ a, win0_13.index t a = 0)
  refine (dats m 0 c).arrAt_eq_of_covers 13 _ (by decide +kernel) fun t hf y => ?_
  obtain ⟨p, q, rfl⟩ : ∃ (p : Fin 1) (q : Fin 256), y = ix2 p q := ⟨y 0, y 1, Shape.idx_ext₂ rfl rfl⟩
  have e : ((cfg0.win 13).blk t).view.emb (ix2 p q) = (ix2 p q : S1x256.Idx) := by blk_ext [hi]
  rw [e]
  show (dats m 0 c).after 13 t (ix2 p q) = _
  rw [after0_13]
  obtain rfl : p = 0 := Subsingleton.elim _ _
  rw [out13_at, iargs m c t]
  rfl

end

end Cert.ReferenceIdeal.Hand

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Run.Frame
public import proofs.«01_k».proof.Proof.RunKernel.Frame
public import proofs.«01_k».proof.Proof.Value.Arrays
public import proofs.«01_k».proof.Proof.Value.Range
public import proofs.«01_k».proof.Proof.Value.RefVal
public import Idealize.ShloMosaic.Adequacy
public import Idealize.ShloMosaic.Init

@[expose] public section

noncomputable section

namespace Cert.Proof

open Idealize.ShloMosaic Idealize.SL.Sem Cert.Kernel

/-- Equal argument arrays are equal arguments by coordinates. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Hand.args m' c = Cert.KernelIdeal.Hand.args m c := by
  unfold Cert.ReferenceIdeal.Hand.args Cert.KernelIdeal.Hand.args
  rw [h0, h1, h2, h3, h4, h5, h6, h7]

section
variable (m' : (ℓ : Loc Cert.ReferenceIdeal.nD Cert.ReferenceIdeal.τ Cert.ReferenceIdeal.sig) → Buf (Elt Ideal) ℓ) (c : Dev Cert.ReferenceIdeal.nD)

theorem ref8 (A : Cert.Spec.Args) (h : Cert.ReferenceIdeal.Hand.args m' c = A) :
    (Cert.ReferenceIdeal.Gen.dats m' 0 c).arrAt 8 Cert.ReferenceIdeal.cfg0.N = (fun i : Cert.ReferenceIdeal.S256x4096.Idx => Cert.Spec.dx A (i 0) (i 1)) := by
  rw [Cert.ReferenceIdeal.Hand.arr8, h]

theorem ref9 (A : Cert.Spec.Args) (h : Cert.ReferenceIdeal.Hand.args m' c = A) :
    (Cert.ReferenceIdeal.Gen.dats m' 0 c).arrAt 9 Cert.ReferenceIdeal.cfg0.N = (fun i : Cert.ReferenceIdeal.S128x4096.Idx => Cert.Spec.dA A (i 0) (i 1)) := by
  rw [Cert.ReferenceIdeal.Hand.arr9, h]

theorem ref10 (A : Cert.Spec.Args) (h : Cert.ReferenceIdeal.Hand.args m' c = A) :
    (Cert.ReferenceIdeal.Gen.dats m' 0 c).arrAt 10 Cert.ReferenceIdeal.cfg0.N = (fun i : Cert.ReferenceIdeal.S128x14336.Idx => Cert.Spec.dB A (i 0) (i 1)) := by
  rw [Cert.ReferenceIdeal.Hand.arr10, h]

theorem ref11 (A : Cert.Spec.Args) (h : Cert.ReferenceIdeal.Hand.args m' c = A) :
    (Cert.ReferenceIdeal.Gen.dats m' 0 c).arrAt 11 Cert.ReferenceIdeal.cfg0.N = (fun i : Cert.ReferenceIdeal.S2x256.Idx => Cert.Spec.dgate A (i 0) (i 1)) := by
  rw [Cert.ReferenceIdeal.Hand.arr11, h]

theorem ref12 (A : Cert.Spec.Args) (h : Cert.ReferenceIdeal.Hand.args m' c = A) :
    (Cert.ReferenceIdeal.Gen.dats m' 0 c).arrAt 12 Cert.ReferenceIdeal.cfg0.N = (fun i : Cert.ReferenceIdeal.S256x14336.Idx => Cert.Spec.codes A (i 0) (i 1)) := by
  rw [Cert.ReferenceIdeal.Hand.arr12, h]

theorem ref13 (A : Cert.Spec.Args) (h : Cert.ReferenceIdeal.Hand.args m' c = A) :
    (Cert.ReferenceIdeal.Gen.dats m' 0 c).arrAt 13 Cert.ReferenceIdeal.cfg0.N = (fun i : Cert.ReferenceIdeal.S1x256.Idx => Cert.Spec.scale A (i 1)) := by
  rw [Cert.ReferenceIdeal.Hand.arr13, h]

end

theorem claim : Cert.Claim := ⟨Cert.Kernel.Gen.facts, Cert.KernelIdeal.Gen.facts, Cert.ReferenceIdeal.Gen.facts, Cert.Pre_in_range.Gen.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  fun m g m' g' hp hm => by
    have : Cert.Pre_in_range.Facts := Cert.Pre_in_range.Gen.facts
    have hq := fun c => Cert.KernelIdeal.Hand.quot_in m c hp
    have ea : ∀ c, Cert.ReferenceIdeal.Hand.args m' c = Cert.KernelIdeal.Hand.args m c := fun c => by
      obtain ⟨h0, h1, h2, h3, h4, h5, h6, h7⟩ := hm c
      exact args_eq m m' c h0 h1 h2 h3 h4 h5 h6 h7
    refine ⟨fun c => fun i : Cert.KernelIdeal.S256x4096.Idx => Cert.Spec.dx (Cert.KernelIdeal.Hand.args m c) (i 0) (i 1),
      fun c => fun i : Cert.KernelIdeal.S128x4096.Idx => Cert.Spec.dA (Cert.KernelIdeal.Hand.args m c) (i 0) (i 1),
      fun c => fun i : Cert.KernelIdeal.S128x14336.Idx => Cert.Spec.dB (Cert.KernelIdeal.Hand.args m c) (i 0) (i 1),
      fun c => fun i : Cert.KernelIdeal.S2x256.Idx => Cert.Spec.dgate (Cert.KernelIdeal.Hand.args m c) (i 0) (i 1),
      fun c => fun i : Cert.KernelIdeal.S256x14336.Idx => Cert.Spec.codes (Cert.KernelIdeal.Hand.args m c) (i 0) (i 1),
      fun c => fun i : Cert.KernelIdeal.S1x256.Idx => Cert.Spec.scale (Cert.KernelIdeal.Hand.args m c) (i 1), ?_, ?_⟩
    · refine (θ_run _ _ _).mono (fun r hr c => ?_) (θ_run_and (Cert.KernelIdeal.Hand.run_main m g) (Cert.KernelIdeal.Hand.unchanged m g))
      exact ⟨((hr.1 c).1 8).trans (Cert.KernelIdeal.Hand.arr8 m c (hq c)), ((hr.1 c).1 9).trans (Cert.KernelIdeal.Hand.arr9 m c (hq c)), ((hr.1 c).1 10).trans (Cert.KernelIdeal.Hand.arr10 m c (hq c)), ((hr.1 c).1 11).trans (Cert.KernelIdeal.Hand.arr11 m c (hq c)), ((hr.1 c).1 12).trans (Cert.KernelIdeal.Hand.arr12 m c (hq c)), ((hr.1 c).1 13).trans (Cert.KernelIdeal.Hand.arr13 m c (hq c)), hr.2 c⟩
    · refine (θ_run _ _ _).mono (fun r hr c => ?_) (Cert.ReferenceIdeal.Value.run_blocks m' g')
      obtain ⟨r0, r1, r2, r3, r4, r5, hrest⟩ := hr c
      exact ⟨r0.trans (ref8 m' c _ (ea c)), r1.trans (ref9 m' c _ (ea c)), r2.trans (ref10 m' c _ (ea c)), r3.trans (ref11 m' c _ (ea c)), r4.trans (ref12 m' c _ (ea c)), r5.trans (ref13 m' c _ (ea c)), hrest⟩⟩

end Cert.Proof

end
